-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v6_0)) (v1 : (c : Dev Cert.GateUpIdeal.nD) → Buf (Elt Ideal) ((c.tc : Thread Cert.GateUpIdeal.nD Cert.GateUpIdeal.τ).loc Cert.GateUpIdeal.main_v6_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v6_0) = v0 c
          ∧ r.2.mem ((c.tc : Thread Cert.GateUpIdeal.nD Cert.GateUpIdeal.τ).loc Cert.GateUpIdeal.main_v6_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v8_0) = v0 c
          ∧ r.2.mem ((c.tc : Thread Cert.GateUpRefIdeal.nD Cert.GateUpRefIdeal.τ).loc Cert.GateUpRefIdeal.main_v8_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6_0) = v0 c
          ∧ r.2.mem ((c.tc : Thread Cert.DownRefIdeal.nD Cert.DownRefIdeal.τ).loc Cert.DownRefIdeal.main_v6_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v28_0)) (v1 : (c : Dev Cert.QkvIdeal.nD) → Buf (Elt Ideal) ((c.tc : Thread Cert.QkvIdeal.nD Cert.QkvIdeal.τ).loc Cert.QkvIdeal.main_v28_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v28_0) = v0 c
          ∧ r.2.mem ((c.tc : Thread Cert.QkvIdeal.nD Cert.QkvIdeal.τ).loc Cert.QkvIdeal.main_v28_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v1_0) = v0 c
          ∧ r.2.mem ((c.tc : Thread Cert.QkvRefIdeal.nD Cert.QkvRefIdeal.τ).loc Cert.QkvRefIdeal.main_v1_1) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
-- ==== GateUp.lean ====
abbrev S3x384x2048 : Shape := ⟨3, ![3, 384, 2048]⟩
abbrev S3x384 : Shape := ⟨2, ![3, 384]⟩
abbrev S1024x11008 : Shape := ⟨2, ![1024, 11008]⟩
abbrev S11008 : Shape := ⟨1, ![11008]⟩
abbrev S1152x2048 : Shape := ⟨2, ![1152, 2048]⟩
abbrev S1x1152 : Shape := ⟨2, ![1, 1152]⟩
abbrev S1x11008 : Shape := ⟨2, ![1, 11008]⟩
abbrev S1152x11008 : Shape := ⟨2, ![1152, 11008]⟩
abbrev S1024x1024 : Shape := ⟨2, ![1024, 1024]⟩
abbrev S1x1024 : Shape := ⟨2, ![1, 1024]⟩
abbrev S1152x1024 : Shape := ⟨2, ![1152, 1024]⟩
abbrev S1152x128 : Shape := ⟨2, ![1152, 128]⟩
abbrev S128x1152 : Shape := ⟨2, ![128, 1152]⟩
abbrev S1x256 : Shape := ⟨2, ![1, 256]⟩
abbrev S1024x256 : Shape := ⟨2, ![1024, 256]⟩
abbrev S2048x256 : Shape := ⟨2, ![2048, 256]⟩
abbrev S384x2048 : Shape := ⟨2, ![384, 2048]⟩
abbrev S384x1 : Shape := ⟨2, ![384, 1]⟩
abbrev S384x256 : Shape := ⟨2, ![384, 256]⟩
abbrev S384x128 : Shape := ⟨2, ![384, 128]⟩
abbrev S1152 : Shape := ⟨1, ![1152]⟩
abbrev S1152x1 : Shape := ⟨2, ![1152, 1]⟩

abbrev nBuf : Space → Nat
  | .hbm => 16
  | .vmem => 20
  | .smem => 0
  | _ => 0

abbrev bufTy : (tb : Table) → Fin (tcTables nBuf tb) → BufTy
  | .hbm, ⟨0, _⟩ => ⟨S3x384x2048, .i8⟩
  | .hbm, ⟨1, _⟩ => ⟨S3x384, .f32⟩
  | .hbm, ⟨2, _⟩ => ⟨S1024x11008, .i8⟩
  | .hbm, ⟨3, _⟩ => ⟨S11008, .f32⟩
  | .hbm, ⟨4, _⟩ => ⟨S11008, .i8⟩
  | .hbm, ⟨5, _⟩ => ⟨S1024x11008, .i8⟩
  | .hbm, ⟨6, _⟩ => ⟨S11008, .f32⟩
  | .hbm, ⟨7, _⟩ => ⟨S11008, .i8⟩
  | .hbm, ⟨8, _⟩ => ⟨S1152x2048, .i8⟩
  | .hbm, ⟨9, _⟩ => ⟨S1x1152, .f32⟩
  | .hbm, ⟨10, _⟩ => ⟨S1x11008, .i8⟩
  | .hbm, ⟨11, _⟩ => ⟨S1x11008, .i8⟩
  | .hbm, ⟨12, _⟩ => ⟨S1x11008, .f32⟩
  | .hbm, ⟨13, _⟩ => ⟨S1x11008, .f32⟩
  | .hbm, ⟨14, _⟩ => ⟨S1152x11008, .f32⟩
  | .hbm, ⟨15, _⟩ => ⟨S1x1152, .f32⟩
  | .local _ .vmem, ⟨0, _⟩ => ⟨S1152x2048, .i8⟩
  | .local _ .vmem, ⟨1, _⟩ => ⟨S1x1152, .f32⟩
  | .local _ .vmem, ⟨2, _⟩ => ⟨S1024x1024, .i8⟩
  | .local _ .vmem, ⟨3, _⟩ => ⟨S1024x1024, .i8⟩
  | .local _ .vmem, ⟨4, _⟩ => ⟨S1024x1024, .i8⟩
  | .local _ .vmem, ⟨5, _⟩ => ⟨S1024x1024, .i8⟩
  | .local _ .vmem, ⟨6, _⟩ => ⟨S1x1024, .i8⟩
  | .local _ .vmem, ⟨7, _⟩ => ⟨S1x1024, .i8⟩
  | .local _ .vmem, ⟨8, _⟩ => ⟨S1x1024, .i8⟩
  | .local _ .vmem, ⟨9, _⟩ => ⟨S1x1024, .i8⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1152x1024, .f32⟩
  | .local _ .vmem, ⟨15, _⟩ => ⟨S1152x1024, .f32⟩
  | .local _ .vmem, ⟨16, _⟩ => ⟨S1x1152, .f32⟩
  | .local _ .vmem, ⟨17, _⟩ => ⟨S1152x2048, .bf16⟩
  | .local _ .vmem, ⟨18, _⟩ => ⟨S1152x128, .f32⟩
  | .local _ .vmem, ⟨19, _⟩ => ⟨S1152x128, .f32⟩
  | _, _ => ⟨S3x384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v515 : BitVec 1 := Scalar.cmpi .eq arg0 c10_i32
  let v516 : BitVec 32 := Scalar.extui v515
  let c0_i32_231 : BitVec 32 := 0#32
  let v517 : BitVec 1 := Scalar.cmpi .ne v516 c0_i32_231
  v517

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1152x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateUpRefIdeal.lean ====
abbrev S3x384x2048 : Shape := ⟨3, ![3, 384, 2048]⟩
abbrev S3x384 : Shape := ⟨2, ![3, 384]⟩
abbrev S1024x11008 : Shape := ⟨2, ![1024, 11008]⟩
abbrev S11008 : Shape := ⟨1, ![11008]⟩
abbrev S1152x2048 : Shape := ⟨2, ![1152, 2048]⟩
abbrev S1152x1024 : Shape := ⟨2, ![1152, 1024]⟩
abbrev S1152x1 : Shape := ⟨2, ![1152, 1]⟩
abbrev S1x11008 : Shape := ⟨2, ![1, 11008]⟩
abbrev S1152x11008 : Shape := ⟨2, ![1152, 11008]⟩
abbrev S1x1152 : Shape := ⟨2, ![1, 1152]⟩
abbrev S1152 : Shape := ⟨1, ![1152]⟩

abbrev nBuf : Space → Nat
  | .hbm => 18
  | .vmem => 11
  | .smem => 0
  | _ => 0

abbrev bufTy : (tb : Table) → Fin (tcTables nBuf tb) → BufTy
  | .hbm, ⟨0, _⟩ => ⟨S3x384x2048, .i8⟩
  | .hbm, ⟨1, _⟩ => ⟨S3x384, .f32⟩
  | .hbm, ⟨2, _⟩ => ⟨S1024x11008, .i8⟩
  | .hbm, ⟨3, _⟩ => ⟨S11008, .f32⟩
  | .hbm, ⟨4, _⟩ => ⟨S11008, .i8⟩
  | .hbm, ⟨5, _⟩ => ⟨S1024x11008, .i8⟩
  | .hbm, ⟨6, _⟩ => ⟨S11008, .f32⟩
  | .hbm, ⟨7, _⟩ => ⟨S11008, .i8⟩
  | .hbm, ⟨8, _⟩ => ⟨S1152x2048, .i8⟩
  | .hbm, ⟨9, _⟩ => ⟨S1152x1024, .i8⟩
  | .hbm, ⟨10, _⟩ => ⟨S1152x1024, .i8⟩
  | .hbm, ⟨11, _⟩ => ⟨S1152x1, .f32⟩
  | .hbm, ⟨12, _⟩ => ⟨S1x11008, .f32⟩
  | .hbm, ⟨13, _⟩ => ⟨S1x11008, .i8⟩
  | .hbm, ⟨14, _⟩ => ⟨S1x11008, .f32⟩
  | .hbm, ⟨15, _⟩ => ⟨S1x11008, .i8⟩
  | .hbm, ⟨16, _⟩ => ⟨S1152x11008, .f32⟩
  | .hbm, ⟨17, _⟩ => ⟨S1x1152, .f32⟩
  | .local _ .vmem, ⟨0, _⟩ => ⟨S1152x1024, .i8⟩
  | .local _ .vmem, ⟨1, _⟩ => ⟨S1152x1024, .i8⟩
  | .local _ .vmem, ⟨2, _⟩ => ⟨S1152x1, .f32⟩
  | .local _ .vmem, ⟨3, _⟩ => ⟨S1024x11008, .i8⟩
  | .local _ .vmem, ⟨4, _⟩ => ⟨S1x11008, .f32⟩
  | .local _ .vmem, ⟨5, _⟩ => ⟨S1x11008, .i8⟩
  | .local _ .vmem, ⟨6, _⟩ => ⟨S1024x11008, .i8⟩
  | .local _ .vmem, ⟨7, _⟩ => ⟨S1x11008, .f32⟩
  | .local _ .vmem, ⟨8, _⟩ => ⟨S1x11008, .i8⟩
  | .local _ .vmem, ⟨9, _⟩ => ⟨S1152x11008, .f32⟩
  | .local _ .vmem, ⟨10, _⟩ => ⟨S1x1152, .f32⟩
  | _, _ => ⟨S3x384x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1152x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x11008 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11008 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x11008 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x11008 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x11008 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Down.lean ====
abbrev S1152x11008 : Shape := ⟨2, ![1152, 11008]⟩
abbrev S1x1152 : Shape := ⟨2, ![1, 1152]⟩
abbrev S3x384x2048 : Shape := ⟨3, ![3, 384, 2048]⟩
abbrev S5504x2048 : Shape := ⟨2, ![5504, 2048]⟩
abbrev S2048 : Shape := ⟨1, ![2048]⟩
abbrev S1x2048 : Shape := ⟨2, ![1, 2048]⟩
abbrev S1152x2048 : Shape := ⟨2, ![1152, 2048]⟩
abbrev S1152x1024 : Shape := ⟨2, ![1152, 1024]⟩
abbrev S512x2048 : Shape := ⟨2, ![512, 2048]⟩
abbrev S1152x128 : Shape := ⟨2, ![1152, 128]⟩
abbrev S128x1152 : Shape := ⟨2, ![128, 1152]⟩
abbrev S1x1024 : Shape := ⟨2, ![1, 1024]⟩
abbrev S1024x2048 : Shape := ⟨2, ![1024, 2048]⟩
abbrev S384x1024 : Shape := ⟨2, ![384, 1024]⟩
abbrev S384x1 : Shape := ⟨2, ![384, 1]⟩
abbrev S384x512 : Shape := ⟨2, ![384, 512]⟩
abbrev S1024x512 : Shape := ⟨2, ![1024, 512]⟩
abbrev S1152x1 : Shape := ⟨2, ![1152, 1]⟩

abbrev nBuf : Space → Nat
  | .hbm => 11
  | .vmem => 13
  | .smem => 0
  | _ => 0

abbrev bufTy : (tb : Table) → Fin (tcTables nBuf tb) → BufTy
  | .hbm, ⟨0, _⟩ => ⟨S1152x11008, .f32⟩
  | .hbm, ⟨1, _⟩ => ⟨S1x1152, .f32⟩
  | .hbm, ⟨2, _⟩ => ⟨S3x384x2048, .f32⟩
  | .hbm, ⟨3, _⟩ => ⟨S5504x2048, .i8⟩
  | .hbm, ⟨4, _⟩ => ⟨S2048, .f32⟩
  | .hbm, ⟨5, _⟩ => ⟨S2048, .i8⟩
  | .hbm, ⟨6, _⟩ => ⟨S1x2048, .i8⟩
  | .hbm, ⟨7, _⟩ => ⟨S1x2048, .f32⟩
  | .hbm, ⟨8, _⟩ => ⟨S1152x2048, .f32⟩
  | .hbm, ⟨9, _⟩ => ⟨S1152x11008, .i8⟩
  | .hbm, ⟨10, _⟩ => ⟨S1152x2048, .bf16⟩
  | .local _ .vmem, ⟨0, _⟩ => ⟨S1152x1024, .f32⟩
  | .local _ .vmem, ⟨1, _⟩ => ⟨S1152x1024, .f32⟩
  | .local _ .vmem, ⟨2, _⟩ => ⟨S1x1152, .f32⟩
  | .local _ .vmem, ⟨3, _⟩ => ⟨S512x2048, .i8⟩
  | .local _ .vmem, ⟨4, _⟩ => ⟨S512x2048, .i8⟩
  | .local _ .vmem, ⟨5, _⟩ => ⟨S1x2048, .i8⟩
  | .local _ .vmem, ⟨6, _⟩ => ⟨S1x2048, .f32⟩
  | .local _ .vmem, ⟨7, _⟩ => ⟨S1152x2048, .f32⟩
  | .local _ .vmem, ⟨8, _⟩ => ⟨S1152x1024, .i8⟩
  | .local _ .vmem, ⟨9, _⟩ => ⟨S1152x1024, .i8⟩
  | .local _ .vmem, ⟨10, _⟩ => ⟨S1152x2048, .bf16⟩
  | .local _ .vmem, ⟨11, _⟩ => ⟨S1152x2048, .i32⟩
  | .local _ .vmem, ⟨12, _⟩ => ⟨S1152x128, .f32⟩
  | _, _ => ⟨S1152x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v173 : BitVec 1 := Scalar.cmpi .eq arg0 c10_i32
  let v174 : BitVec 32 := Scalar.extui v173
  let c0_i32_85 : BitVec 32 := 0#32
  let v175 : BitVec 1 := Scalar.cmpi .ne v174 c0_i32_85
  v175

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1152x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownRefIdeal.lean ====
abbrev S1152x11008 : Shape := ⟨2, ![1152, 11008]⟩
abbrev S1x1152 : Shape := ⟨2, ![1, 1152]⟩
abbrev S3x384x2048 : Shape := ⟨3, ![3, 384, 2048]⟩
abbrev S5504x2048 : Shape := ⟨2, ![5504, 2048]⟩
abbrev S2048 : Shape := ⟨1, ![2048]⟩
abbrev S1152x5504 : Shape := ⟨2, ![1152, 5504]⟩
abbrev S1152x1 : Shape := ⟨2, ![1152, 1]⟩
abbrev S1152x2048 : Shape := ⟨2, ![1152, 2048]⟩
abbrev S1x2048 : Shape := ⟨2, ![1, 2048]⟩
abbrev S1152 : Shape := ⟨1, ![1152]⟩

abbrev nBuf : Space → Nat
  | .hbm => 14
  | .vmem => 10
  | .smem => 0
  | _ => 0

abbrev bufTy : (tb : Table) → Fin (tcTables nBuf tb) → BufTy
  | .hbm, ⟨0, _⟩ => ⟨S1152x11008, .f32⟩
  | .hbm, ⟨1, _⟩ => ⟨S1x1152, .f32⟩
  | .hbm, ⟨2, _⟩ => ⟨S3x384x2048, .f32⟩
  | .hbm, ⟨3, _⟩ => ⟨S5504x2048, .i8⟩
  | .hbm, ⟨4, _⟩ => ⟨S2048, .f32⟩
  | .hbm, ⟨5, _⟩ => ⟨S2048, .i8⟩
  | .hbm, ⟨6, _⟩ => ⟨S1152x5504, .f32⟩
  | .hbm, ⟨7, _⟩ => ⟨S1152x5504, .f32⟩
  | .hbm, ⟨8, _⟩ => ⟨S1152x1, .f32⟩
  | .hbm, ⟨9, _⟩ => ⟨S1152x2048, .f32⟩
  | .hbm, ⟨10, _⟩ => ⟨S1x2048, .f32⟩
  | .hbm, ⟨11, _⟩ => ⟨S1x2048, .i8⟩
  | .hbm, ⟨12, _⟩ => ⟨S1152x11008, .i8⟩
  | .hbm, ⟨13, _⟩ => ⟨S1152x2048, .bf16⟩
  | .local _ .vmem, ⟨0, _⟩ => ⟨S1152x11008, .f32⟩
  | .local _ .vmem, ⟨1, _⟩ => ⟨S1152x5504, .f32⟩
  | .local _ .vmem, ⟨2, _⟩ => ⟨S1152x5504, .f32⟩
  | .local _ .vmem, ⟨3, _⟩ => ⟨S1152x1, .f32⟩
  | .local _ .vmem, ⟨4, _⟩ => ⟨S1152x2048, .f32⟩
  | .local _ .vmem, ⟨5, _⟩ => ⟨S5504x2048, .i8⟩
  | .local _ .vmem, ⟨6, _⟩ => ⟨S1x2048, .f32⟩
  | .local _ .vmem, ⟨7, _⟩ => ⟨S1x2048, .i8⟩
  | .local _ .vmem, ⟨8, _⟩ => ⟨S1152x11008, .i8⟩
  | .local _ .vmem, ⟨9, _⟩ => ⟨S1152x2048, .bf16⟩
  | _, _ => ⟨S1152x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1152x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x5504 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x5504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5504x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1152x11008 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S3x384x2048 : Shape := ⟨3, ![3, 384, 2048]⟩
abbrev S2048 : Shape := ⟨1, ![2048]⟩
abbrev S1024x2560 : Shape := ⟨2, ![1024, 2560]⟩
abbrev S2560 : Shape := ⟨1, ![2560]⟩
abbrev S2x128 : Shape := ⟨2, ![2, 128]⟩
abbrev S3 : Shape := ⟨1, ![3]⟩
abbrev S3x1 : Shape := ⟨2, ![3, 1]⟩
abbrev S384 : Shape := ⟨1, ![384]⟩
abbrev S1x384 : Shape := ⟨2, ![1, 384]⟩
abbrev S3x384 : Shape := ⟨2, ![3, 384]⟩
abbrev S64 : Shape := ⟨1, ![64]⟩
abbrev S_ : Shape := ⟨0, ![]⟩
abbrev S3x384x1 : Shape := ⟨3, ![3, 384, 1]⟩
abbrev S1x1x64 : Shape := ⟨3, ![1, 1, 64]⟩
abbrev S3x384x64 : Shape := ⟨3, ![3, 384, 64]⟩
abbrev S3x384x128 : Shape := ⟨3, ![3, 384, 128]⟩
abbrev S1x2048 : Shape := ⟨2, ![1, 2048]⟩
abbrev S1x2560 : Shape := ⟨2, ![1, 2560]⟩
abbrev S3x1x384 : Shape := ⟨3, ![3, 1, 384]⟩
abbrev S3x16x384x128 : Shape := ⟨4, ![3, 16, 384, 128]⟩
abbrev S3x2x384x128 : Shape := ⟨4, ![3, 2, 384, 128]⟩
abbrev S3x2x64x384 : Shape := ⟨4, ![3, 2, 64, 384]⟩
abbrev S3x4x2x384 : Shape := ⟨4, ![3, 4, 2, 384]⟩
abbrev S1x384x2048 : Shape := ⟨3, ![1, 384, 2048]⟩
abbrev S1x384x128 : Shape := ⟨3, ![1, 384, 128]⟩
abbrev S1x1x384 : Shape := ⟨3, ![1, 1, 384]⟩
abbrev S1x16x384x128 : Shape := ⟨4, ![1, 16, 384, 128]⟩
abbrev S1x2x384x128 : Shape := ⟨4, ![1, 2, 384, 128]⟩
abbrev S1x2x64x384 : Shape := ⟨4, ![1, 2, 64, 384]⟩
abbrev S1x4x2x384 : Shape := ⟨4, ![1, 4, 2, 384]⟩
abbrev S2048x2560 : Shape := ⟨2, ![2048, 2560]⟩
abbrev S384x2048 : Shape := ⟨2, ![384, 2048]⟩
abbrev S384x1 : Shape := ⟨2, ![384, 1]⟩
abbrev S384x128 : Shape := ⟨2, ![384, 128]⟩
abbrev S128x384 : Shape := ⟨2, ![128, 384]⟩
abbrev S64x128 : Shape := ⟨2, ![64, 128]⟩
abbrev S2048x512 : Shape := ⟨2, ![2048, 512]⟩
abbrev S384x512 : Shape := ⟨2, ![384, 512]⟩
abbrev S1x512 : Shape := ⟨2, ![1, 512]⟩
abbrev S1x128 : Shape := ⟨2, ![1, 128]⟩
abbrev S1x1x384x128 : Shape := ⟨4, ![1, 1, 384, 128]⟩
abbrev S64x384 : Shape := ⟨2, ![64, 384]⟩
abbrev S1x1x64x384 : Shape := ⟨4, ![1, 1, 64, 384]⟩
abbrev S1x1x1x384 : Shape := ⟨4, ![1, 1, 1, 384]⟩

abbrev nBuf : Space → Nat
  | .hbm => 46
  | .vmem => 28
  | .smem => 0
  | _ => 0

abbrev bufTy : (tb : Table) → Fin (tcTables nBuf tb) → BufTy
  | .hbm, ⟨0, _⟩ => ⟨S3x384x2048, .bf16⟩
  | .hbm, ⟨1, _⟩ => ⟨S2048, .f32⟩
  | .hbm, ⟨2, _⟩ => ⟨S1024x2560, .i8⟩
  | .hbm, ⟨3, _⟩ => ⟨S2560, .f32⟩
  | .hbm, ⟨4, _⟩ => ⟨S2560, .i8⟩
  | .hbm, ⟨5, _⟩ => ⟨S2x128, .f32⟩
  | .hbm, ⟨6, _⟩ => ⟨S3, .i32⟩
  | .hbm, ⟨7, _⟩ => ⟨S3x1, .i32⟩
  | .hbm, ⟨8, _⟩ => ⟨S384, .i32⟩
  | .hbm, ⟨9, _⟩ => ⟨S1x384, .i32⟩
  | .hbm, ⟨10, _⟩ => ⟨S3x384, .i32⟩
  | .hbm, ⟨11, _⟩ => ⟨S3x384, .i32⟩
  | .hbm, ⟨12, _⟩ => ⟨S3x384, .i32⟩
  | .hbm, ⟨13, _⟩ => ⟨S3x384, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S3x384x1, .f32⟩
  | .hbm, ⟨26, _⟩ => ⟨S1x1x64, .f32⟩
  | .hbm, ⟨27, _⟩ => ⟨S3x384x64, .f32⟩
  | .hbm, ⟨28, _⟩ => ⟨S3x384x64, .f32⟩
  | .hbm, ⟨29, _⟩ => ⟨S3x384x64, .f32⟩
  | .hbm, ⟨30, _⟩ => ⟨S3x384x64, .f32⟩
  | .hbm, ⟨31, _⟩ => ⟨S3x384x64, .f32⟩
  | .hbm, ⟨32, _⟩ => ⟨S3x384x128, .f32⟩
  | .hbm, ⟨33, _⟩ => ⟨S3x384x64, .f32⟩
  | .hbm, ⟨34, _⟩ => ⟨S3x384x128, .f32⟩
  | .hbm, ⟨35, _⟩ => ⟨S1x2048, .f32⟩
  | .hbm, ⟨36, _⟩ => ⟨S1x2560, .i8⟩
  | .hbm, ⟨37, _⟩ => ⟨S1x2560, .f32⟩
  | .hbm, ⟨38, _⟩ => ⟨S3x384x2048, .i8⟩
  | .hbm, ⟨39, _⟩ => ⟨S3x1x384, .f32⟩
  | .hbm, ⟨40, _⟩ => ⟨S3x16x384x128, .bf16⟩
  | .hbm, ⟨41, _⟩ => ⟨S3x2x384x128, .bf16⟩
  | .hbm, ⟨42, _⟩ => ⟨S3x2x384x128, .bf16⟩
  | .hbm, ⟨43, _⟩ => ⟨S3x2x64x384, .i8⟩
  | .hbm, ⟨44, _⟩ => ⟨S3x2x64x384, .i8⟩
  | .hbm, ⟨45, _⟩ => ⟨S3x4x2x384, .f32⟩
  | .local _ .vmem, ⟨0, _⟩ => ⟨S1x384x2048, .bf16⟩
  | .local _ .vmem, ⟨1, _⟩ => ⟨S1x384x2048, .bf16⟩
  | .local _ .vmem, ⟨2, _⟩ => ⟨S1x2048, .f32⟩
  | .local _ .vmem, ⟨3, _⟩ => ⟨S1024x2560, .i8⟩
  | .local _ .vmem, ⟨4, _⟩ => ⟨S1x2560, .i8⟩
  | .local _ .vmem, ⟨5, _⟩ => ⟨S1x2560, .f32⟩
  | .local _ .vmem, ⟨6, _⟩ => ⟨S2x128, .f32⟩
  | .local _ .vmem, ⟨7, _⟩ => ⟨S1x384x128, .f32⟩
  | .local _ .vmem, ⟨8, _⟩ => ⟨S1x384x128, .f32⟩
  | .local _ .vmem, ⟨9, _⟩ => ⟨S1x384x128, .f32⟩
  | .local _ .vmem, ⟨10, _⟩ => ⟨S1x384x128, .f32⟩
  | .local _ .vmem, ⟨11, _⟩ => ⟨S1x384x2048, .i8⟩
  | .local _ .vmem, ⟨12, _⟩ => ⟨S1x384x2048, .i8⟩
  | .local _ .vmem, ⟨13, _⟩ => ⟨S1x1x384, .f32⟩
  | .local _ .vmem, ⟨14, _⟩ => ⟨S1x1x384, .f32⟩
  | .local _ .vmem, ⟨15, _⟩ => ⟨S1x16x384x128, .bf16⟩
  | .local _ .vmem, ⟨16, _⟩ => ⟨S1x16x384x128, .bf16⟩
  | .local _ .vmem, ⟨17, _⟩ => ⟨S1x2x384x128, .bf16⟩
  | .local _ .vmem, ⟨18, _⟩ => ⟨S1x2x384x128, .bf16⟩
  | .local _ .vmem, ⟨19, _⟩ => ⟨S1x2x384x128, .bf16⟩
  | .local _ .vmem, ⟨20, _⟩ => ⟨S1x2x384x128, .bf16⟩
  | .local _ .vmem, ⟨21, _⟩ => ⟨S1x2x64x384, .i8⟩
  | .local _ .vmem, ⟨22, _⟩ => ⟨S1x2x64x384, .i8⟩
  | .local _ .vmem, ⟨23, _⟩ => ⟨S1x2x64x384, .i8⟩
  | .local _ .vmem, ⟨24, _⟩ => ⟨S1x2x64x384, .i8⟩
  | .local _ .vmem, ⟨25, _⟩ => ⟨S1x4x2x384, .f32⟩
  | .local _ .vmem, ⟨26, _⟩ => ⟨S1x4x2x384, .f32⟩
  | .local _ .vmem, ⟨27, _⟩ => ⟨S2048x2560, .bf16⟩
  | _, _ => ⟨S3x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev main_v28_5 : Ref sig .tc := ⟨.hbm, 43, rfl⟩
abbrev main_v28_6 : Ref sig .tc := ⟨.hbm, 44, rfl⟩
abbrev main_v28_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x384x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x384x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x64x384 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x64x384 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x2x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== QkvRefIdeal.lean ====
abbrev S3x384x2048 : Shape := ⟨3, ![3, 384, 2048]⟩
abbrev S2048 : Shape := ⟨1, ![2048]⟩
abbrev S1024x2560 : Shape := ⟨2, ![1024, 2560]⟩
abbrev S2560 : Shape := ⟨1, ![2560]⟩
abbrev S2x128 : Shape := ⟨2, ![2, 128]⟩
abbrev S3 : Shape := ⟨1, ![3]⟩
abbrev S1x1x2048 : Shape := ⟨3, ![1, 1, 2048]⟩
abbrev S3x1x384 : Shape := ⟨3, ![3, 1, 384]⟩
abbrev S3x384 : Shape := ⟨2, ![3, 384]⟩
abbrev S3x384x1 : Shape := ⟨3, ![3, 384, 1]⟩

abbrev nBuf : Space → Nat
  | .hbm => 10
  | .vmem => 4
  | .smem => 0
  | _ => 0

abbrev bufTy : (tb : Table) → Fin (tcTables nBuf tb) → BufTy
  | .hbm, ⟨0, _⟩ => ⟨S3x384x2048, .bf16⟩
  | .hbm, ⟨1, _⟩ => ⟨S2048, .f32⟩
  | .hbm, ⟨2, _⟩ => ⟨S1024x2560, .i8⟩
  | .hbm, ⟨3, _⟩ => ⟨S2560, .f32⟩
  | .hbm, ⟨4, _⟩ => ⟨S2560, .i8⟩
  | .hbm, ⟨5, _⟩ => ⟨S2x128, .f32⟩
  | .hbm, ⟨6, _⟩ => ⟨S3, .i32⟩
  | .hbm, ⟨7, _⟩ => ⟨S1x1x2048, .f32⟩
  | .hbm, ⟨8, _⟩ => ⟨S3x384x2048, .i8⟩
  | .hbm, ⟨9, _⟩ => ⟨S3x1x384, .f32⟩
  | .local _ .vmem, ⟨0, _⟩ => ⟨S3x384x2048, .bf16⟩
  | .local _ .vmem, ⟨1, _⟩ => ⟨S1x1x2048, .f32⟩
  | .local _ .vmem, ⟨2, _⟩ => ⟨S3x384x2048, .i8⟩
  | .local _ .vmem, ⟨3, _⟩ => ⟨S3x1x384, .f32⟩
  | _, _ => ⟨S3x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x384x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.UpBits.Run.lean ====
/- The first kernel's body runs to the end from any contents of its buffers. -/
module

public import proofs.«01_k».proof.Proof.Gen.GateUp.Frame
public import proofs.«01_k».proof.Proof.Gen.GateUp.Skeleton

@[expose] public section

-- membership in a rectangle of production extents (`View.cover_of_tiled`): the elaborator's structural look
-- recurses once per coordinate of the long axes
set_option maxRecDepth 16384

noncomputable section

namespace Cert.GateUp.Up

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-- A buffer at known contents is a memref owned at some contents. -/
theorem owns_any {s : Shape} {e : EltTy} (c : Dev nD) (M : Memref sig .tc .vmem s e) (f : BufTy.Contents (Elt F) M.view.ty) :
    (M.view.loc (c : Thread nD τ) ↦[M.view.set]{fullShare} f : sProp 𝕄) ⊢ iprop(∃ d, owns (c : Thread nD τ) M fullShare d) := by
  unfold owns
  iintro H
  iexists (M.view.read (Elt F) f); iexists f
  isplitr; · ipureintro; rfl
  iexact H

set_option maxHeartbeats 1200000 in
/-- At the first point: from any contents of every buffer the body runs to the end and hands every buffer back. -/
theorem body_A (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole)
    (hc0 : cond0_0 i) (hc1 : ¬cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  isplitl [H9]; · iapply (owns_any c _ _); iexact H9
  isplitl [H10]; · iapply (owns_any c _ _); iexact H10
  isplitl [H11]; · iapply (owns_any c _ _); iexact H11
  iapply (owns_any c _ _); iexact H12

set_option maxHeartbeats 1200000 in
/-- The same at a middle point. -/
theorem body_B (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole)
    (hc0 : ¬cond0_0 i) (hc1 : ¬cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  isplitl [H9]; · iapply (owns_any c _ _); iexact H9
  isplitl [H10]; · iapply (owns_any c _ _); iexact H10
  isplitl [H11]; · iapply (owns_any c _ _); iexact H11
  iapply (owns_any c _ _); iexact H12

set_option maxHeartbeats 1200000 in
/-- The same at the last point. -/
theorem body_C (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole)
    (hc0 : ¬cond0_0 i) (hc1 : cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  isplitl [H9]; · iapply (owns_any c _ _); iexact H9
  isplitl [H10]; · iapply (owns_any c _ _); iexact H10
  isplitl [H11]; · iapply (owns_any c _ _); iexact H11
  iapply (owns_any c _ _); iexact H12

/-- From any contents of every buffer the body, at any point, runs to the end and hands every buffer back. -/
theorem body_any (c : Dev nD) (t : Fin cfg0.N) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gate_up (grid0.coords t) arg1 harg1 arg2 harg2 arg3 harg3 arg4 harg4 arg5 harg5 arg6 harg6 arg7 harg7 arg8 harg8 arg9 harg9 arg10 harg10 arg11 harg11 arg12 harg12 arg13 harg13) K := by
  by_cases hc0 : cond0_0 (grid0.coords t) <;> by_cases hc1 : cond0_1 (grid0.coords t)
  · have h0 := (hcond0_0 t).mp hc0; have h1 := (hcond0_1 t).mp hc1; omega
  · exact body_A c (grid0.coords t) _ _ _ _ _ _ _ _ _ _ _ _ _ _ _ _ _ _ _ _ _ _ _ _ _ _ hc0 hc1 E K
  · exact body_C c (grid0.coords t) _ _ _ _ _ _ _ _ _ _ _ _ _ _ _ _ _ _ _ _ _ _ _ _ _ _ hc0 hc1 E K
  · exact body_B c (grid0.coords t) _ _ _ _ _ _ _ _ _ _ _ _ _ _ _ _ _ _ _ _ _ _ _ _ _ _ hc0 hc1 E K

end Cert.GateUp.Up

end
-- ==== Proof.UpBits.Frame.lean ====
/- The frame of the first kernel: it runs to the end and leaves its arguments as they were. -/
module

public import proofs.«01_k».proof.Proof.UpBits.Run
public import Idealize.ShloMosaic.Lib.Claim

@[expose] public section

-- membership in a rectangle of production extents (`View.cover_of_tiled`): the elaborator's structural look
-- recurses once per coordinate of the long axes
set_option maxRecDepth 16384

noncomputable section

namespace Cert.GateUp.Up

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from a run whose windows are all forgotten: no argument array is written. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 3 rfl).trans ((hA c 3).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The proof data: the arrays as the region finds them, nothing said of any staging buffer or of the scratch. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The kernel's invariant with the three scratch operands as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]

/-- The body table's row at a point is the body at the point's staging memrefs. -/
theorem defs₀_row (t : Fin cfg0.N) :
    defs₀ (F := F) .tc cfg0.body (cfg0.bodyArgs t (cfg0.slots t)) = bodyAt0 t := by
  unfold defs₀; rw [Defs.onTc_tc]

/-- The body at a point, every buffer at anything. -/
theorem sound_body (c : Dev nD) (t : Fin cfg0.N) :
    iprop((dats m 0 c).Φ t.castSucc ∗ (dats m 0 c).owesAt () t.castSucc
      ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))
      ⊢ wp frame (wpE (defs₀ (F := F)) Variants.none c none) Set.univ (bodyAt0 t) (fun _ =>
    iprop((dats m 0 c).Φ t.succ ∗ (dats m 0 c).owesAt () t.succ
      ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))) := by
  unfold bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨S0, S1, S2⟩, Hg⟩, Ho, H0, H1, H2, H3, H4, H5, H6, H7, H8, H9⟩
  iapply (body_any c t _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, every window forgotten. -/
theorem body_obligation (c : Dev nD) : BodyObligation (dats (F := F) m 0 c) (defs₀ (F := F)) Variants.none () Set.univ (fun _ => true) := fun t => by
  simp only [bigSep_W0, defs₀_row]
  exact triple_restated (sound_body m c t) rfl .rfl fun _ => .rfl

-- the launch theorem's implicit arguments are found by unifying its conclusion with this one
set_option backward.isDefEq.respectTransparency.types false in
/-- The run: it ends, no argument array of the pipeline is written, and every semaphore counter ends at zero. -/
theorem run_main : θ_run defs (onTc (τ := τ) (main (F := F))) (s₀ m ρ) (fun r => (Pipeline.RDat.FramePost (cfgs 0) (fun c => (dats m 0 c).toRForget (fun _ => true)) (V m)) r ∧ r.2.sem = fun _ => 0) :=
  Pipeline.θ_run_frame_track_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_ofR m ρ (fun c => (dats m 0 c).toRForget (fun _ => true)) (A_eq m) ((θ_run defs _ _).mono (fun _ h => h.1) (run_main m ρ)))
    ((θ_run defs _ _).mono (fun _ h => h.2) (run_main m ρ))

end Cert.GateUp.Up

end
-- ==== Proof.Up.Setup.lean ====
/- The first kernel's branch conditions, and names for its staging buffers and scratch. -/
module

public import proofs.«01_k».proof.Proof.Gen.GateUpIdeal.Frame
public import proofs.«01_k».proof.Proof.Gen.GateUpIdeal.Skeleton

@[expose] public section

-- membership in a rectangle of production extents (`View.cover_of_tiled`): the elaborator's structural look
-- recurses once per coordinate of the long axes
set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Names for the staging memrefs and the scratch -/

/-- One staging buffer of output window 8, through which its contents are stated (`View.read_writes_of_cover`: the
    choice does not matter). -/
abbrev VO0_8 : View sig .tc .vmem S1152x1024 .f32 := (Memref.whole cc0_stg8_0 : Memref sig .tc .vmem S1152x1024 .f32).view
/-- One staging buffer of output window 9, through which its contents are stated (`View.read_writes_of_cover`: the
    choice does not matter). -/
abbrev VO0_9 : View sig .tc .vmem S1x1152 .f32 := (Memref.whole cc0_stg9_0 : Memref sig .tc .vmem S1x1152 .f32).view
/-- Each window's current staging memref at point `t`, spelled as the pipeline passes it (`bodyAt0`), and its wholeness. -/
abbrev ms0_0 (t : Fin cfg0.N) : Memref sig .tc .vmem S1152x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1152 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1152x2048 .bf16 := Memref.whole cc0_scratch0
abbrev scM0_1 : Memref sig .tc .vmem S1152x128 .f32 := Memref.whole cc0_scratch1
abbrev scM0_2 : Memref sig .tc .vmem S1152x128 .f32 := Memref.whole cc0_scratch2
/-- The scratch `arg11` the kernel carries between points, as a view: what it holds is stated through it. -/
abbrev VS0_0 : View sig .tc .vmem S1152x2048 .bf16 := scM0_0.view
/-- The scratch `arg12` the kernel carries between points, as a view: what it holds is stated through it. -/
abbrev VS0_1 : View sig .tc .vmem S1152x128 .f32 := scM0_1.view
/-- The scratch `arg13` the kernel carries between points, as a view: what it holds is stated through it. -/
abbrev VS0_2 : View sig .tc .vmem S1152x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.GateUpIdeal.Up

end
-- ==== Proof.Up.RunA.lean ====
/- The first kernel's body run at the first point (the scratch is filled). -/
module

public import proofs.«01_k».proof.Proof.Up.Setup

@[expose] public section

-- membership in a rectangle of production extents (`View.cover_of_tiled`): the elaborator's structural look
-- recurses once per coordinate of the long axes
set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at the first point (the scratch is filled): from the inputs' blocks (and what the scratch holds) it runs to the end, leaving
    each buffer it writes with a list of stores, last first, that the run finds. -/
noncomputable def kernelRunA (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i)
    (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) :
    Σ' (L8 : List (View.Piece (Elt F) S1152x1024 .f32)), Σ' (L9 : List (View.Piece (Elt F) S1x1152 .f32)), Σ' (LS0 : List (View.Piece (Elt F) S1152x2048 .bf16)), Σ' (LS1 : List (View.Piece (Elt F) S1152x128 .f32)), { LS2 : List (View.Piece (Elt F) S1152x128 .f32) //
      ∀ (xi9 : Vec F S1x1152 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, fun xi9 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]; · iexists _; iexact HS0
    isplitl [HS1]; · iexists _; iexact HS1
    iexists _; iexact HS2

end Cert.GateUpIdeal.Up

end
-- ==== Proof.Up.RunB.lean ====
/- The first kernel's body run at a middle point. -/
module

public import proofs.«01_k».proof.Proof.Up.RunA

@[expose] public section

-- membership in a rectangle of production extents (`View.cover_of_tiled`): the elaborator's structural look
-- recurses once per coordinate of the long axes
set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body at a middle point: from the inputs' blocks (and what the scratch holds) it runs to the end, leaving
    each buffer it writes with a list of stores, last first, that the run finds. -/
noncomputable def kernelRunB (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : ¬cond0_1 i)
    (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    Σ' (L8 : List (View.Piece (Elt F) S1152x1024 .f32)), Σ' (L9 : List (View.Piece (Elt F) S1x1152 .f32)), Σ' (LS0 : List (View.Piece (Elt F) S1152x2048 .bf16)), Σ' (LS1 : List (View.Piece (Elt F) S1152x128 .f32)), { LS2 : List (View.Piece (Elt F) S1152x128 .f32) //
      ∀ (xi9 : Vec F S1x1152 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], ?_, fun xi9 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; iexact HS2

end Cert.GateUpIdeal.Up

end
-- ==== Proof.Up.RunC.lean ====
/- The first kernel's body run at the last point (the row of scales is written). -/
module

public import proofs.«01_k».proof.Proof.Up.RunB

@[expose] public section

-- membership in a rectangle of production extents (`View.cover_of_tiled`): the elaborator's structural look
-- recurses once per coordinate of the long axes
set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body at the last point (the row of scales is written): from the inputs' blocks (and what the scratch holds) it runs to the end, leaving
    each buffer it writes with a list of stores, last first, that the run finds. -/
noncomputable def kernelRunC (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : cond0_1 i)
    (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    Σ' (L8 : List (View.Piece (Elt F) S1152x1024 .f32)), Σ' (L9 : List (View.Piece (Elt F) S1x1152 .f32)), Σ' (LS0 : List (View.Piece (Elt F) S1152x2048 .bf16)), Σ' (LS1 : List (View.Piece (Elt F) S1152x128 .f32)), { LS2 : List (View.Piece (Elt F) S1152x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], [], ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _; isplitr; · ipureintro; exact harg11.read_unread _
      iexact HS0
    isplitl [HS1]
    · iexists _; isplitr; · ipureintro; exact harg12.read_unread _
      iexact HS1
    iexists _; iexact HS2

end Cert.GateUpIdeal.Up

end
-- ==== Proof.Up.Tile.lean ====
/- One tile of the first kernel's body as plain functions, and the stores each run leaves as lists of such tiles. -/
module

public import proofs.«01_k».proof.Proof.Up.RunC
public import Idealize.ShloMosaic.Lib.Pipeline.ValueKit
public import Idealize.ShloMosaic.Lib.Pipeline.ReadBack

@[expose] public section

-- membership in a rectangle of production extents (`View.cover_of_tiled`): the elaborator's structural look
-- recurses once per coordinate of the long axes
set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which of a tile's 256 columns lie inside the 11008 columns of the result. -/
def live (i : grid0.Coords) (off : BitVec 32) : IVec S1x256 1 :=
  cmpi .slt (addi (iota .tc S1x256 32 [1] iota_S1x256_d1_w32) (broadcast S1x256 (Scalar.addi (Scalar.muli (BitVec.ofNat 32 (i 0).val) 1024#32) off))) (broadcast S1x256 11008#32)

/-- A tile of 4-bit weights unpacked, less the zero points. -/
def wT (lv : IVec S1x256 1) (w : Vec F S1024x256 .i8) (z : Vec F S1x256 .i8) : FVec F S2048x256 .bf16 :=
  subf (sitofp .bf16 (bitcast S2048x256 16 (ori (andi (extui 32 w natLt_8_32) (broadcast S1024x256 15#32)) (shli (shrsi (extui 32 w natLt_8_32) (broadcast S1024x256 4#32)) (broadcast S1024x256 16#32))) bitcasts_S1024x256_w32_S2048x256_w16))
    (broadcastTo S2048x256 (truncf .bf16 (select lv (sitofp .f32 (shapeCast S1x256 z shapeCasts_S1x256_S1x256)) (broadcast S1x256 (Scalar.ofBits .f32 0x00000000#32))) bitsLt_bf16_f32) broadcasts_S1x256_S2048x256)

/-- A tile of the weights' scales, zero outside the result. -/
def sT (lv : IVec S1x256 1) (v : Vec F S1x256 .f32) : FVec F S1x256 .f32 :=
  select lv (shapeCast S1x256 v shapeCasts_S1x256_S1x256) (broadcast S1x256 (Scalar.ofBits .f32 0x00000000#32))

/-- A tile of one projection: the dot product, times the row's scale, times the column's. -/
def gT (a : Vec F S384x2048 .bf16) (w : FVec F S2048x256 .bf16) (s : Vec F S384x1 .f32) (v : FVec F S1x256 .f32) : FVec F S384x256 .f32 :=
  mulf (mulf (matmul dot_S384x2048_S2048x256_S384x256_1_0_0_1_n_n none a w (constant S384x256 .f32 0x00000000#32)) (broadcastTo S384x256 s broadcasts_S384x1_S384x256)) (broadcastTo S384x256 v broadcasts_S1x256_S384x256)

/-- The gated product of two tiles. -/
def hT (g u : FVec F S384x256 .f32) : FVec F S384x256 .f32 := mulf (mulf g (logistic g)) u

/-- The running maxima of absolute values after one more tile. -/
def amT (m : FVec F S384x256 .f32) (p : Vec F S384x128 .f32) : FVec F S384x128 .f32 :=
  shapeCast S384x128 (maximumf p (maximumf (extractStridedSlice S384x128 ![0, 0] (absf m) slices_S384x256_o0_0_S384x128) (extractStridedSlice S384x128 ![0, 128] (absf m) slices_S384x256_o0_128_S384x128))) shapeCasts_S384x128_S384x128

theorem inbW (o : ℕ) (h : o + 256 ≤ 1024) : ∀ a, (![0, o] : Fin 2 → ℕ) a + S1024x256.size a ≤ S1024x1024.size a := by
  intro a; fin_cases a <;> simp [S1024x256, S1024x1024] <;> omega
theorem inbZ (o : ℕ) (h : o + 256 ≤ 1024) : ∀ a, (![0, o] : Fin 2 → ℕ) a + S1x256.size a ≤ S1x1024.size a := by
  intro a; fin_cases a <;> simp [S1x256, S1x1024] <;> omega
theorem inbA (r : ℕ) (h : r + 384 ≤ 1152) : ∀ a, (![r, 0] : Fin 2 → ℕ) a + S384x2048.size a ≤ S1152x2048.size a := by
  intro a; fin_cases a <;> simp [S384x2048, S1152x2048] <;> omega
theorem inbS (r : ℕ) (h : r + 384 ≤ 1152) : ∀ a, (![r, 0] : Fin 2 → ℕ) a + S384x1.size a ≤ S1152x128.size a := by
  intro a; fin_cases a <;> simp [S384x1, S1152x128] <;> omega
theorem inbM (r : ℕ) (h : r + 384 ≤ 1152) : ∀ a, (![r, 0] : Fin 2 → ℕ) a + S384x128.size a ≤ S1152x128.size a := by
  intro a; fin_cases a <;> simp [S384x128, S1152x128] <;> omega

/-- The tile of the product at columns `o` to `o + 255`, rows `r` to `r + 383` of the blocks. -/
def tM (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (o r : ℕ) (ho : o + 256 ≤ 1024) (hr : r + 384 ≤ 1152) : FVec F S384x256 .f32 :=
  hT (gT (View.ld a (Rect.unit ![r, 0] ![384, 2048] (inbA r hr)))
        (wT (live i (BitVec.ofNat 32 o)) (View.ld x2 (Rect.unit ![0, o] ![1024, 256] (inbW o ho))) (View.ld x4 (Rect.unit ![0, o] ![1, 256] (inbZ o ho))))
        (View.ld s (Rect.unit ![r, 0] ![384, 1] (inbS r hr)))
        (sT (live i (BitVec.ofNat 32 o)) (View.ld x6 (Rect.unit ![0, o] ![1, 256] (inbZ o ho)))))
    (gT (View.ld a (Rect.unit ![r, 0] ![384, 2048] (inbA r hr)))
        (wT (live i (BitVec.ofNat 32 o)) (View.ld x3 (Rect.unit ![0, o] ![1024, 256] (inbW o ho))) (View.ld x5 (Rect.unit ![0, o] ![1, 256] (inbZ o ho))))
        (View.ld s (Rect.unit ![r, 0] ![384, 1] (inbS r hr)))
        (sT (live i (BitVec.ofNat 32 o)) (View.ld x7 (Rect.unit ![0, o] ![1, 256] (inbZ o ho)))))

/-- The running maxima of rows `r` to `r + 383` after the first, second, third and fourth tile of a point. -/
def am1 (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (am : Vec F S1152x128 .f32) (r : ℕ) (hr : r + 384 ≤ 1152) : FVec F S384x128 .f32 :=
  amT (tM i x2 x3 x4 x5 x6 x7 a s 0 r (by omega) hr) (View.ld am (Rect.unit ![r, 0] ![384, 128] (inbM r hr)))
def am2 (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (am : Vec F S1152x128 .f32) (r : ℕ) (hr : r + 384 ≤ 1152) : FVec F S384x128 .f32 :=
  amT (tM i x2 x3 x4 x5 x6 x7 a s 256 r (by omega) hr) (am1 i x2 x3 x4 x5 x6 x7 a s am r hr)
def am3 (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (am : Vec F S1152x128 .f32) (r : ℕ) (hr : r + 384 ≤ 1152) : FVec F S384x128 .f32 :=
  amT (tM i x2 x3 x4 x5 x6 x7 a s 512 r (by omega) hr) (am2 i x2 x3 x4 x5 x6 x7 a s am r hr)
def am4 (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (am : Vec F S1152x128 .f32) (r : ℕ) (hr : r + 384 ≤ 1152) : FVec F S384x128 .f32 :=
  amT (tM i x2 x3 x4 x5 x6 x7 a s 768 r (by omega) hr) (am3 i x2 x3 x4 x5 x6 x7 a s am r hr)

/-- The stores into the product's block, last first. -/
def mPieces (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) : List (View.Piece (Elt F) S1152x1024 .f32) :=
  [⟨Rect.unit ![768, 768] ![384, 256] (by decide), tM i x2 x3 x4 x5 x6 x7 a s 768 768 (by omega) (by omega)⟩,
   ⟨Rect.unit ![384, 768] ![384, 256] (by decide), tM i x2 x3 x4 x5 x6 x7 a s 768 384 (by omega) (by omega)⟩,
   ⟨Rect.unit ![0, 768] ![384, 256] (by decide), tM i x2 x3 x4 x5 x6 x7 a s 768 0 (by omega) (by omega)⟩,
   ⟨Rect.unit ![768, 512] ![384, 256] (by decide), tM i x2 x3 x4 x5 x6 x7 a s 512 768 (by omega) (by omega)⟩,
   ⟨Rect.unit ![384, 512] ![384, 256] (by decide), tM i x2 x3 x4 x5 x6 x7 a s 512 384 (by omega) (by omega)⟩,
   ⟨Rect.unit ![0, 512] ![384, 256] (by decide), tM i x2 x3 x4 x5 x6 x7 a s 512 0 (by omega) (by omega)⟩,
   ⟨Rect.unit ![768, 256] ![384, 256] (by decide), tM i x2 x3 x4 x5 x6 x7 a s 256 768 (by omega) (by omega)⟩,
   ⟨Rect.unit ![384, 256] ![384, 256] (by decide), tM i x2 x3 x4 x5 x6 x7 a s 256 384 (by omega) (by omega)⟩,
   ⟨Rect.unit ![0, 256] ![384, 256] (by decide), tM i x2 x3 x4 x5 x6 x7 a s 256 0 (by omega) (by omega)⟩,
   ⟨Rect.unit ![768, 0] ![384, 256] (by decide), tM i x2 x3 x4 x5 x6 x7 a s 0 768 (by omega) (by omega)⟩,
   ⟨Rect.unit ![384, 0] ![384, 256] (by decide), tM i x2 x3 x4 x5 x6 x7 a s 0 384 (by omega) (by omega)⟩,
   ⟨Rect.unit ![0, 0] ![384, 256] (by decide), tM i x2 x3 x4 x5 x6 x7 a s 0 0 (by omega) (by omega)⟩]

/-- The stores into the running maxima, last first. -/
def amPieces (i : grid0.Coords) (x2 : Vec F S1024x1024 .i8) (x3 : Vec F S1024x1024 .i8) (x4 : Vec F S1x1024 .i8) (x5 : Vec F S1x1024 .i8) (x6 : Vec F S1x1024 .f32) (x7 : Vec F S1x1024 .f32) (a : Vec F S1152x2048 .bf16) (s : Vec F S1152x128 .f32) (am : Vec F S1152x128 .f32) : List (View.Piece (Elt F) S1152x128 .f32) :=
  [⟨Rect.unit ![768, 0] ![384, 128] (by decide), am4 i x2 x3 x4 x5 x6 x7 a s am 768 (by omega)⟩,
   ⟨Rect.unit ![384, 0] ![384, 128] (by decide), am4 i x2 x3 x4 x5 x6 x7 a s am 384 (by omega)⟩,
   ⟨Rect.unit ![0, 0] ![384, 128] (by decide), am4 i x2 x3 x4 x5 x6 x7 a s am 0 (by omega)⟩,
   ⟨Rect.unit ![768, 0] ![384, 128] (by decide), am3 i x2 x3 x4 x5 x6 x7 a s am 768 (by omega)⟩,
   ⟨Rect.unit ![384, 0] ![384, 128] (by decide), am3 i x2 x3 x4 x5 x6 x7 a s am 384 (by omega)⟩,
   ⟨Rect.unit ![0, 0] ![384, 128] (by decide), am3 i x2 x3 x4 x5 x6 x7 a s am 0 (by omega)⟩,
   ⟨Rect.unit ![768, 0] ![384, 128] (by decide), am2 i x2 x3 x4 x5 x6 x7 a s am 768 (by omega)⟩,
   ⟨Rect.unit ![384, 0] ![384, 128] (by decide), am2 i x2 x3 x4 x5 x6 x7 a s am 384 (by omega)⟩,
   ⟨Rect.unit ![0, 0] ![384, 128] (by decide), am2 i x2 x3 x4 x5 x6 x7 a s am 0 (by omega)⟩,
   ⟨Rect.unit ![768, 0] ![384, 128] (by decide), am1 i x2 x3 x4 x5 x6 x7 a s am 768 (by omega)⟩,
   ⟨Rect.unit ![384, 0] ![384, 128] (by decide), am1 i x2 x3 x4 x5 x6 x7 a s am 384 (by omega)⟩,
   ⟨Rect.unit ![0, 0] ![384, 128] (by decide), am1 i x2 x3 x4 x5 x6 x7 a s am 0 (by omega)⟩]

/-- The stores of a middle point are the tiles, over what the scratch held. -/
theorem mB (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    (kernelRunB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2).1 = mPieces i x2 x3 x4 x5 x6 x7 xs0 xs1 := by
  frame_open
  simp (disch := decide) only [↓ View.readCov_skip, ↓ View.readCov_cons_toLoadRect, ↓ View.readCov_fill, View.readAt_eq_ld, Memref.IsWhole.read_unread, View.ld_unit_lit']
  rfl
theorem amB (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    (kernelRunB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2).2.2.2.2.val = amPieces i x2 x3 x4 x5 x6 x7 xs0 xs1 xs2 := by
  frame_open
  simp (disch := decide) only [↓ View.readCov_skip, ↓ View.readCov_cons_toLoadRect, ↓ View.readCov_fill, View.readAt_eq_ld, Memref.IsWhole.read_unread, View.ld_unit_lit']
  rfl
/-- The same at the last point. -/
theorem mC (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    (kernelRunC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2).1 = mPieces i x2 x3 x4 x5 x6 x7 xs0 xs1 := by
  frame_open
  simp (disch := decide) only [↓ View.readCov_skip, ↓ View.readCov_cons_toLoadRect, ↓ View.readCov_fill, View.readAt_eq_ld, Memref.IsWhole.read_unread, View.ld_unit_lit']
  rfl
theorem amC (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    (kernelRunC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2).2.2.2.2.val = amPieces i x2 x3 x4 x5 x6 x7 xs0 xs1 xs2 := by
  frame_open
  simp (disch := decide) only [↓ View.readCov_skip, ↓ View.readCov_cons_toLoadRect, ↓ View.readCov_fill, View.readAt_eq_ld, Memref.IsWhole.read_unread, View.ld_unit_lit']
  rfl
/-- The same at the first point, over the scratch just filled. -/
theorem mA (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) :
    (kernelRunA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 = mPieces i x2 x3 x4 x5 x6 x7 (k0_pay3 x0) (k0_pay4 x1) := by
  frame_open
  simp (disch := decide) only [↓ View.readCov_skip, ↓ View.readCov_cons_toLoadRect, ↓ View.readCov_fill, View.readAt_eq_ld, Memref.IsWhole.read_unread, View.ld_unit_lit']
  rfl
theorem aA (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) :
    (kernelRunA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 = [⟨Rect.unit ![0, 0] ![1152, 2048] (by decide), k0_pay3 x0⟩] := by
  frame_open
  simp (disch := decide) only [↓ View.readCov_skip, ↓ View.readCov_cons_toLoadRect, ↓ View.readCov_fill, View.readAt_eq_ld, Memref.IsWhole.read_unread, View.ld_unit_lit']
theorem sA (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) :
    (kernelRunA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1 = [⟨Rect.unit ![0, 0] ![1152, 128] (by decide), k0_pay4 x1⟩] := by
  frame_open
  simp (disch := decide) only [↓ View.readCov_skip, ↓ View.readCov_cons_toLoadRect, ↓ View.readCov_fill, View.readAt_eq_ld, Memref.IsWhole.read_unread, View.ld_unit_lit']
theorem amA (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) :
    (kernelRunA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.2.val = amPieces i x2 x3 x4 x5 x6 x7 (k0_pay3 x0) (k0_pay4 x1) k0_pay5 ++ [⟨Rect.unit ![0, 0] ![1152, 128] (by decide), k0_pay5⟩] := by
  frame_open
  simp (disch := decide) only [↓ View.readCov_skip, ↓ View.readCov_cons_toLoadRect, ↓ View.readCov_fill, View.readAt_eq_ld, Memref.IsWhole.read_unread, View.ld_unit_lit']
  rfl
theorem readCov_all (v : View sig .tc .vmem S1152x128 .f32) (L : List (View.Piece (Elt F) S1152x128 .f32)) (inb) :
    v.readCov L (Rect.unit ![0, 0] ![1152, 128] inb).toLoadRect = View.canon L := by
  rw [View.readCov_eq_canon']
  funext j
  refine congrArg (View.canon L) (funext fun a => Fin.ext ?_)
  refine (Rect.idx_unit_val _ _ _ j a).trans ?_
  fin_cases a <;> simp
/-- The last point's row of scales, from the finished maxima. -/
theorem dC (c : Dev nD) (i : grid0.Coords) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : cond0_1 i) (x0 : Vec F S1152x2048 .i8) (x1 : Vec F S1x1152 .f32) (x2 : Vec F S1024x1024 .i8) (x3 : Vec F S1024x1024 .i8) (x4 : Vec F S1x1024 .i8) (x5 : Vec F S1x1024 .i8) (x6 : Vec F S1x1024 .f32) (x7 : Vec F S1x1024 .f32) (xs0 : Vec F S1152x2048 .bf16) (xs1 : Vec F S1152x128 .f32) (xs2 : Vec F S1152x128 .f32) :
    (kernelRunC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2).2.1 = [⟨Rect.unit ![0, 0] ![1, 1152] (by decide), k0_pay2 (View.canon (amPieces i x2 x3 x4 x5 x6 x7 xs0 xs1 xs2))⟩] := by
  rw [← readCov_all arg13.view _ (by decide)]
  frame_open
  simp (disch := decide) only [↓ View.readCov_skip, ↓ View.readCov_cons_toLoadRect, ↓ View.readCov_fill, View.readAt_eq_ld, Memref.IsWhole.read_unread, View.ld_unit_lit']
  rfl

end Cert.GateUpIdeal.Up

end
-- ==== Proof.Up.Point.lean ====
/- One tile of the first kernel's body at an index, over the reals: the gated product of the two projections inside
   the 11008 columns, zero outside; and the blocks and running maxima a point leaves. -/
module

public import proofs.«01_k».proof.Proof.Up.Tile
public import Idealize.ShloMosaic.Lib.Pointwise
public import Idealize.ShloMosaic.Lib.BitcastPair

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic

/-- The 4-bit weight of input row `k` in the byte that packs rows `2 (k / 2)` (low half) and `2 (k / 2) + 1` (high half). -/
def nib (b : BitVec 8) (k : ℕ) : ℕ := if k % 2 = 0 then b.toNat % 16 else b.toNat / 16

/-- An integer as an extended real. -/
abbrev ir (z : ℤ) : EReal := ((z : ℝ) : EReal)

/-- One entry of a projection: a row of codes times a column of weights less their zero point, times both scales. -/
def proj (a : Fin 2048 → EReal) (w : Fin 1024 → BitVec 8) (z : BitVec 8) (s v : EReal) : EReal :=
  (∑ k : Fin 2048, a k * (ir (nib (w ⟨k / 2, by omega⟩) k) - ir z.toInt)) * s * v

/-- The gated product. -/
def gated (g u : EReal) : EReal := g * Ideal.logistic g * u

theorem nib_even (b : BitVec 8) : (((b.zeroExtend 32 &&& 15#32) ||| ((b.zeroExtend 32).sshiftRight 4 <<< 16)).extractLsb' 0 16).toInt = (b.toNat % 16 : ℕ) := by
  revert b; decide +kernel
theorem nib_odd (b : BitVec 8) : (((b.zeroExtend 32 &&& 15#32) ||| ((b.zeroExtend 32).sshiftRight 4 <<< 16)).extractLsb' 16 16).toInt = (b.toNat / 16 : ℕ) := by
  revert b; decide +kernel

/-- The unpacking at an index. -/
theorem unpack_apply (w : Vec Ideal S1024x256 .i8) (k : Fin 2048) (q : Fin 256) :
    (bitcast S2048x256 16 (ori (andi (extui 32 w natLt_8_32) (broadcast S1024x256 15#32)) (shli (shrsi (extui 32 w natLt_8_32) (broadcast S1024x256 4#32)) (broadcast S1024x256 16#32))) bitcasts_S1024x256_w32_S2048x256_w16 (ix2 k q)).toInt
      = (nib (w (ix2 ⟨k / 2, by omega⟩ q)) k : ℕ) := by
  rw [bitcast_32_16]
  have hrow : S2048x256.row (ix2 k q) = k.val := rfl
  have e : ∀ (hp), bitcasts_S1024x256_w32_S2048x256_w16.srcIdx (ix2 k q) (S2048x256.row (ix2 k q) / 2) hp = ix2 ⟨k / 2, by omega⟩ q := by
    intro hp
    funext a; fin_cases a
    · exact Fin.ext (Shape.Bitcasts.srcIdx_row _ _ _ _ _ rfl)
    · exact Fin.ext (Shape.Bitcasts.srcIdx_other _ _ _ _ _ (by decide))
  rw [e, hrow]
  unfold nib
  rcases Nat.mod_two_eq_zero_or_one k.val with h | h
  · rw [h, if_pos rfl]; exact nib_even _
  · rw [h, if_neg (by decide)]; exact nib_odd _

theorem wT_apply (lv : IVec S1x256 1) (w : Vec Ideal S1024x256 .i8) (z : Vec Ideal S1x256 .i8) (k : Fin 2048) (q : Fin 256) (hl : lv (ix2 0 q) = 1#1) :
    wT lv w z (ix2 k q) = ir (nib (w (ix2 ⟨k / 2, by omega⟩ q)) k) - ir (z (ix2 0 q)).toInt := by
  unfold wT
  pointwise
  rw [hl]
  show ((((bitcast S2048x256 16 _ _ (ix2 k q)).toInt : ℤ) : ℝ) : EReal) - _ = _
  rw [unpack_apply]; rfl

theorem gT_apply (a : Vec Ideal S384x2048 .bf16) (w : FVec Ideal S2048x256 .bf16) (s : Vec Ideal S384x1 .f32) (v : FVec Ideal S1x256 .f32) (p : Fin 384) (q : Fin 256) :
   gT a w s v (ix2 p q) = (∑ x : Fin 2048, a (ix2 p x) * w (ix2 x q)) * s (ix2 p 0) * v (ix2 0 q) := by
  unfold gT
  pointwise
theorem sT_apply (lv : IVec S1x256 1) (v : Vec Ideal S1x256 .f32) (q : Fin 256) : sT lv v (ix2 0 q) = Scalar.select (lv (ix2 0 q)) (v (ix2 0 q)) (0 : EReal) := by
  unfold sT
  pointwise
theorem hT_apply (g u : FVec Ideal S384x256 .f32) (p : Fin 384) (q : Fin 256) : hT g u (ix2 p q) = gated (g (ix2 p q)) (u (ix2 p q)) := by
  unfold hT gated
  pointwise
theorem amT_apply (m : FVec Ideal S384x256 .f32) (x : Vec Ideal S384x128 .f32) (p : Fin 384) (q : Fin 128) :
    amT m x (ix2 p q) = max (x (ix2 p q)) (max (FloatOps.absf (F := Ideal) (φ := .f32) (m (ix2 p ⟨q, by omega⟩))) (FloatOps.absf (F := Ideal) (φ := .f32) (m (ix2 p ⟨128 + q, by omega⟩)))) := by
  unfold amT
  pointwise

theorem live_apply (i : grid0.Coords) (n : ℕ) (hn : (i 0).val = n) (hn11 : n < 11) (o : ℕ) (ho : o + 256 ≤ 1024) (q : Fin 256) :
    live i (BitVec.ofNat 32 o) (ix2 0 q) = if n * 1024 + (o + q) < 11008 then 1#1 else 0#1 := by
  unfold live
  pointwise
  rw [hn]
  have e : IntOp.addi (BitVec.ofNat 32 ↑q) (Scalar.addi (Scalar.muli (BitVec.ofNat 32 n) 1024#32) (BitVec.ofNat 32 o)) = BitVec.ofNat 32 (n * 1024 + (o + q)) := by
    show BitVec.ofNat 32 ↑q + (BitVec.ofNat 32 n * 1024#32 + BitVec.ofNat 32 o) = _
    rw [show (1024#32 : BitVec 32) = BitVec.ofNat 32 1024 from rfl, ← BitVec.ofNat_mul, ← BitVec.ofNat_add, ← BitVec.ofNat_add]
    congr 1; omega
  rw [e]
  show BitVec.ofBool ((BitVec.ofNat 32 (n * 1024 + (o + q))).slt 11008#32) = _
  have hq := q.isLt
  have : (BitVec.ofNat 32 (n * 1024 + (o + q.val))).slt 11008#32 = decide (n * 1024 + (o + q.val) < 11008) := by
    rw [BitVec.slt_eq_decide]
    congr 1
    rw [BitVec.toInt_eq_toNat_of_lt (by rw [BitVec.toNat_ofNat]; omega), BitVec.toNat_ofNat, Nat.mod_eq_of_lt (by omega)]
    exact propext (by rw [show (11008#32 : BitVec 32).toInt = 11008 from rfl]; omega)
  rw [this]; by_cases h : n * 1024 + (o + q.val) < 11008 <;> simp [h]

end Cert.GateUpIdeal.Up
-- ==== Proof.Up.Cell.lean ====
/- The block of the product and the running maxima a point of the first kernel leaves, in the whole arrays' terms:
   what lies past the 11008 columns of the arguments has no influence, since its scales are masked to zero. -/
module

public import proofs.«01_k».proof.Proof.Up.Point

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic

/-- The eight operands of the call. -/
structure In where
  codes : Vec Ideal S1152x2048 .i8
  sc : Vec Ideal S1x1152 .f32
  cg : Vec Ideal S1024x11008 .i8
  cu : Vec Ideal S1024x11008 .i8
  zg : Vec Ideal S1x11008 .i8
  zu : Vec Ideal S1x11008 .i8
  sg : Vec Ideal S1x11008 .f32
  su : Vec Ideal S1x11008 .f32

/-- The product at row `r`, column `j`. -/
def In.M (I : In) (r : Fin 1152) (j : Fin 11008) : EReal :=
  gated (proj (fun k => ir (I.codes (ix2 r k)).toInt) (fun k => I.cg (ix2 k j)) (I.zg (ix2 0 j)) (I.sc (ix2 0 r)) (I.sg (ix2 0 j)))
    (proj (fun k => ir (I.codes (ix2 r k)).toInt) (fun k => I.cu (ix2 k j)) (I.zu (ix2 0 j)) (I.sc (ix2 0 r)) (I.su (ix2 0 j)))

/-- The product at row `r`, column `q` of block `n`: zero past the last column. -/
def In.cell (I : In) (n : ℕ) (r : Fin 1152) (q : ℕ) : EReal :=
  if h : n * 1024 + q < 11008 then I.M r ⟨n * 1024 + q, h⟩ else 0

/-- Block `n` of the product. -/
def In.mblk (I : In) (n : ℕ) : Vec Ideal S1152x1024 .f32 := fun y => I.cell n ⟨(y 0).val, (y 0).isLt⟩ (y 1).val

/-- The absolute value. -/
abbrev ab (x : EReal) : EReal := FloatOps.absf (F := Ideal) (φ := .f32) x

/-- One running maximum after the tile at columns `o` to `o + 255` of block `n`. -/
def In.up (I : In) (n : ℕ) (r : Fin 1152) (l : ℕ) (o : ℕ) (p : EReal) : EReal :=
  max p (max (ab (I.cell n r (o + l))) (ab (I.cell n r (o + (128 + l)))))

/-- The running maximum of row `r`, lane `l`, after `n` blocks. -/
def In.am (I : In) : ℕ → Fin 1152 → ℕ → EReal
  | 0, _, _ => 0
  | n + 1, r, l => I.up n r l 768 (I.up n r l 512 (I.up n r l 256 (I.up n r l 0 (I.am n r l))))

/-- The running maxima after `n` blocks. -/
def In.AM (I : In) (n : ℕ) : Vec Ideal S1152x128 .f32 := fun y => I.am n ⟨(y 0).val, (y 0).isLt⟩ (y 1).val

/-- Inside the columns, the six fetched blocks at point `n` hold the arrays'. -/
structure In.Agree (I : In) (n : ℕ) (x2 x3 : Vec Ideal S1024x1024 .i8) (x4 x5 : Vec Ideal S1x1024 .i8) (x6 x7 : Vec Ideal S1x1024 .f32) : Prop where
  h2 : ∀ (k : Fin 1024) (q : Fin 1024) (h : n * 1024 + q.val < 11008), x2 (ix2 k q) = I.cg (ix2 k ⟨_, h⟩)
  h3 : ∀ (k : Fin 1024) (q : Fin 1024) (h : n * 1024 + q.val < 11008), x3 (ix2 k q) = I.cu (ix2 k ⟨_, h⟩)
  h4 : ∀ (q : Fin 1024) (h : n * 1024 + q.val < 11008), x4 (ix2 0 q) = I.zg (ix2 0 ⟨_, h⟩)
  h5 : ∀ (q : Fin 1024) (h : n * 1024 + q.val < 11008), x5 (ix2 0 q) = I.zu (ix2 0 ⟨_, h⟩)
  h6 : ∀ (q : Fin 1024) (h : n * 1024 + q.val < 11008), x6 (ix2 0 q) = I.sg (ix2 0 ⟨_, h⟩)
  h7 : ∀ (q : Fin 1024) (h : n * 1024 + q.val < 11008), x7 (ix2 0 q) = I.su (ix2 0 ⟨_, h⟩)

/-- A load of a tile is the buffer at the shifted index. -/
theorem ld2 {m n a b : ℕ} {e : EltTy} (X : Vec Ideal ⟨2, ![m, n]⟩ e) (r o : ℕ) (inb : ∀ d, (![r, o] : Fin 2 → ℕ) d + (![a, b] : Fin 2 → ℕ) d ≤ (![m, n] : Fin 2 → ℕ) d) (p : Fin a) (q : Fin b) (hp : r + p.val < m) (hq : o + q.val < n) :
    View.ld X (Rect.unit (s := ⟨2, ![m, n]⟩) ![r, o] ![a, b] inb) (ix2 p q) = X (ix2 ⟨r + p, hp⟩ ⟨o + q, hq⟩) :=
  View.ld_unit_apply_of X ![r, o] ![a, b] inb (ix2 p q) _ (fun d => by fin_cases d <;> rfl)

variable (I : In) (i : grid0.Coords) (n : ℕ) (hn : (i 0).val = n) (hn11 : n < 11)
  (x2 x3 : Vec Ideal S1024x1024 .i8) (x4 x5 : Vec Ideal S1x1024 .i8) (x6 x7 : Vec Ideal S1x1024 .f32)
  (hA : I.Agree n x2 x3 x4 x5 x6 x7)

include hn hn11 hA in
/-- A tile of the body, at an index. -/
theorem tM_apply (o r : ℕ) (ho : o + 256 ≤ 1024) (hr : r + 384 ≤ 1152) (p : Fin 384) (q : Fin 256) :
    tM i x2 x3 x4 x5 x6 x7 (k0_pay3 (F := Ideal) I.codes) (k0_pay4 (F := Ideal) I.sc) o r ho hr (ix2 p q) = I.cell n ⟨r + p, by omega⟩ (o + q) := by
  unfold tM
  rw [hT_apply, gT_apply, gT_apply, sT_apply, sT_apply]
  have hl := live_apply i n hn hn11 o ho q
  unfold In.cell
  split_ifs with h
  · rw [if_pos h] at hl
    rw [hl]
    have hw2 := fun k => wT_apply (live i (BitVec.ofNat 32 o)) (View.ld x2 (Rect.unit ![0, o] ![1024, 256] (inbW o ho))) (View.ld x4 (Rect.unit ![0, o] ![1, 256] (inbZ o ho))) k q hl
    have hw3 := fun k => wT_apply (live i (BitVec.ofNat 32 o)) (View.ld x3 (Rect.unit ![0, o] ![1024, 256] (inbW o ho))) (View.ld x5 (Rect.unit ![0, o] ![1, 256] (inbZ o ho))) k q hl
    have ea : ∀ k : Fin 2048, (View.ld (Val := Elt Ideal) (S := S1152x2048) (e' := .bf16) (k0_pay3 (F := Ideal) I.codes) (Rect.unit ![r, 0] ![384, 2048] (inbA r hr))) (ix2 p k) = ir (I.codes (ix2 ⟨r + p, by omega⟩ k)).toInt := by
      intro k
      rw [show (View.ld (Val := Elt Ideal) (S := S1152x2048) (e' := .bf16) (k0_pay3 (F := Ideal) I.codes) (Rect.unit ![r, 0] ![384, 2048] (inbA r hr))) (ix2 p k) = k0_pay3 (F := Ideal) I.codes (ix2 ⟨r + p, by omega⟩ ⟨0 + k, by omega⟩) from ld2 (e := .bf16) _ _ _ _ _ _ _ _]
      pointwise [k0_pay3]
      rfl
    have es : (View.ld (Val := Elt Ideal) (S := S1152x128) (e' := .f32) (k0_pay4 (F := Ideal) I.sc) (Rect.unit ![r, 0] ![384, 1] (inbS r hr))) (ix2 p 0) = I.sc (ix2 0 ⟨r + p, by omega⟩) := by
      rw [show (View.ld (Val := Elt Ideal) (S := S1152x128) (e' := .f32) (k0_pay4 (F := Ideal) I.sc) (Rect.unit ![r, 0] ![384, 1] (inbS r hr))) (ix2 p 0) = k0_pay4 (F := Ideal) I.sc (ix2 ⟨r + p, by omega⟩ ⟨0, by omega⟩) from ld2 (e := .f32) _ _ _ _ _ _ _ _]
      pointwise [k0_pay4]
    have e2 : ∀ k : Fin 1024, (View.ld (Val := Elt Ideal) (S := S1024x1024) (e' := .i8) x2 (Rect.unit ![0, o] ![1024, 256] (inbW o ho))) (ix2 k q) = I.cg (ix2 k ⟨n * 1024 + (o + q), h⟩) := fun k => by
      rw [show (View.ld (Val := Elt Ideal) (S := S1024x1024) (e' := .i8) x2 (Rect.unit ![0, o] ![1024, 256] (inbW o ho))) (ix2 k q) = x2 (ix2 ⟨0 + k, by omega⟩ ⟨o + q, by omega⟩) from ld2 (e := .i8) _ _ _ _ _ _ _ _]
      rw [hA.h2 _ _ h]; simp only [Nat.zero_add]
    have e3 : ∀ k : Fin 1024, (View.ld (Val := Elt Ideal) (S := S1024x1024) (e' := .i8) x3 (Rect.unit ![0, o] ![1024, 256] (inbW o ho))) (ix2 k q) = I.cu (ix2 k ⟨n * 1024 + (o + q), h⟩) := fun k => by
      rw [show (View.ld (Val := Elt Ideal) (S := S1024x1024) (e' := .i8) x3 (Rect.unit ![0, o] ![1024, 256] (inbW o ho))) (ix2 k q) = x3 (ix2 ⟨0 + k, by omega⟩ ⟨o + q, by omega⟩) from ld2 (e := .i8) _ _ _ _ _ _ _ _]
      rw [hA.h3 _ _ h]; simp only [Nat.zero_add]
    have e4 : (View.ld (Val := Elt Ideal) (S := S1x1024) (e' := .i8) x4 (Rect.unit ![0, o] ![1, 256] (inbZ o ho))) (ix2 0 q) = I.zg (ix2 0 ⟨n * 1024 + (o + q), h⟩) :=
      (ld2 (e := .i8) x4 0 o _ 0 q (by decide) (by omega)).trans (hA.h4 _ h)
    have e5 : (View.ld (Val := Elt Ideal) (S := S1x1024) (e' := .i8) x5 (Rect.unit ![0, o] ![1, 256] (inbZ o ho))) (ix2 0 q) = I.zu (ix2 0 ⟨n * 1024 + (o + q), h⟩) :=
      (ld2 (e := .i8) x5 0 o _ 0 q (by decide) (by omega)).trans (hA.h5 _ h)
    have e6 : (View.ld (Val := Elt Ideal) (S := S1x1024) (e' := .f32) x6 (Rect.unit ![0, o] ![1, 256] (inbZ o ho))) (ix2 0 q) = I.sg (ix2 0 ⟨n * 1024 + (o + q), h⟩) :=
      (ld2 (e := .f32) x6 0 o _ 0 q (by decide) (by omega)).trans (hA.h6 _ h)
    have e7 : (View.ld (Val := Elt Ideal) (S := S1x1024) (e' := .f32) x7 (Rect.unit ![0, o] ![1, 256] (inbZ o ho))) (ix2 0 q) = I.su (ix2 0 ⟨n * 1024 + (o + q), h⟩) :=
      (ld2 (e := .f32) x7 0 o _ 0 q (by decide) (by omega)).trans (hA.h7 _ h)
    simp only [hw2, hw3, ea, es, e2, e3, e4, e5, e6, e7]
    rfl
  · rw [if_neg h] at hl
    rw [hl]
    show gated (_ * 0) (_ * 0) = 0
    simp [gated]

include hn hn11 hA in
/-- The same with the index and the result's place given by coordinates. -/
theorem tM_at (o r : ℕ) (ho : o + 256 ≤ 1024) (hr : r + 384 ≤ 1152) (x : S384x256.Idx) (R : Fin 1152) (Q : ℕ) (hR : R.val = r + (x 0).val) (hQ : Q = o + (x 1).val) :
    tM i x2 x3 x4 x5 x6 x7 (k0_pay3 (F := Ideal) I.codes) (k0_pay4 (F := Ideal) I.sc) o r ho hr x = I.cell n R Q := by
  subst hQ
  obtain ⟨p, q, rfl⟩ : ∃ (p : Fin 384) (q : Fin 256), x = ix2 p q := ⟨x 0, x 1, eq_ix2 x⟩
  rw [tM_apply I i n hn hn11 x2 x3 x4 x5 x6 x7 hA]
  congr 1; exact Fin.ext hR.symm

include hn hn11 hA in
/-- The stores into the product's block leave the block. -/
theorem canon_m : View.canon (mPieces i x2 x3 x4 x5 x6 x7 (k0_pay3 (F := Ideal) I.codes) (k0_pay4 (F := Ideal) I.sc)) = I.mblk n := by
  funext y
  unfold mPieces
  canon_tiles x h
  all_goals
    refine tM_at I i n hn hn11 x2 x3 x4 x5 x6 x7 hA _ _ _ _ _ _ _ ?_ ?_ <;> first | assumption | (rw [Nat.zero_add]; assumption)

include hn hn11 hA in
theorem am4_at (r : ℕ) (hr : r + 384 ≤ 1152) (x : S384x128.Idx) (R : Fin 1152) (L : ℕ) (hR : R.val = r + (x 0).val) (hL : L = (x 1).val) :
    am4 i x2 x3 x4 x5 x6 x7 (k0_pay3 (F := Ideal) I.codes) (k0_pay4 (F := Ideal) I.sc) (I.AM n) r hr x = I.am (n + 1) R L := by
  obtain ⟨p, q, rfl⟩ : ∃ (p : Fin 384) (q : Fin 128), x = ix2 p q := ⟨x 0, x 1, eq_ix2 x⟩
  have hR' : R.val = r + p.val := hR
  have hL' : L = q.val := hL
  have hx : (View.ld (Val := Elt Ideal) (S := S1152x128) (e' := .f32) (I.AM n) (Rect.unit ![r, 0] ![384, 128] (inbM r hr))) (ix2 p q) = I.am n R L := by
    rw [show (View.ld (Val := Elt Ideal) (S := S1152x128) (e' := .f32) (I.AM n) (Rect.unit ![r, 0] ![384, 128] (inbM r hr))) (ix2 p q) = I.AM n (ix2 ⟨r + p, by omega⟩ ⟨0 + q, by omega⟩) from ld2 (e := .f32) _ _ _ _ _ _ _ _]
    exact congr (congrArg (I.am n) (Fin.ext hR'.symm)) (show 0 + q.val = L by omega)
  have ht := fun o ho (q : Fin 256) => tM_at I i n hn hn11 x2 x3 x4 x5 x6 x7 hA o r ho hr (ix2 p q) R (o + q.val) hR' rfl
  unfold am4 am3 am2 am1
  rw [amT_apply, amT_apply, amT_apply, amT_apply, hx]
  simp only [ht]
  rw [hL']; rfl

include hn hn11 hA in
/-- The stores into the running maxima leave the next maxima. -/
theorem canon_am (L' : List (View.Piece (Elt Ideal) S1152x128 .f32)) : View.canon (amPieces i x2 x3 x4 x5 x6 x7 (k0_pay3 (F := Ideal) I.codes) (k0_pay4 (F := Ideal) I.sc) (I.AM n) ++ L') = I.AM (n + 1) := by
  funext y
  unfold amPieces
  refine View.canon_append_of_piecesOf (I.AM (n + 1)) (_ :: _ :: _ :: _ :: _ :: _ :: _ :: _ :: _ :: L') [_, _, _] ⟨?_, ?_, ?_, trivial⟩ y ?_
  · intro x; exact am4_at I i n hn hn11 x2 x3 x4 x5 x6 x7 hA 768 (by omega) x _ _ ((Rect.emb_apply _ x 0).trans (by show 768 + 1 * (x 0).val = _; omega)) ((Rect.emb_apply _ x 1).trans (by show 0 + 1 * (x 1).val = _; omega))
  · intro x; exact am4_at I i n hn hn11 x2 x3 x4 x5 x6 x7 hA 384 (by omega) x _ _ ((Rect.emb_apply _ x 0).trans (by show 384 + 1 * (x 0).val = _; omega)) ((Rect.emb_apply _ x 1).trans (by show 0 + 1 * (x 1).val = _; omega))
  · intro x; exact am4_at I i n hn hn11 x2 x3 x4 x5 x6 x7 hA 0 (by omega) x _ _ ((Rect.emb_apply _ x 0).trans (by show 0 + 1 * (x 0).val = _; omega)) ((Rect.emb_apply _ x 1).trans (by show 0 + 1 * (x 1).val = _; omega))
  · exact View.cover_of_tiled _ ![384, 128] rfl y

/-- Before the first point the maxima are zero. -/
theorem pay5_eq : k0_pay5 (F := Ideal) = I.AM 0 := by
  funext y
  obtain ⟨p, q, rfl⟩ : ∃ (p : Fin 1152) (q : Fin 128), y = ix2 p q := ⟨y 0, y 1, eq_ix2 y⟩
  pointwise [k0_pay5]; rfl

end Cert.GateUpIdeal.Up
-- ==== Proof.Up.Step.lean ====
/- What a point of the first kernel leaves, over the reals: its block of the product, the running maxima after it,
   and at the last point the row of scales; the first point also fills the two other scratch buffers. -/
module

public import proofs.«01_k».proof.Proof.Up.Cell

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer covered by stores, owned at what they leave. -/
theorem owns_writes {s : Shape} {e : EltTy} (c : Dev nD) (a : Memref sig .tc .vmem s e) (L L' : List (View.Piece (Elt Ideal) s e)) (X : Vec Ideal s e)
    (hL : L = L') (hc : ∀ y, ∃ p ∈ L', y ∈ p.1.set) (hX : View.canon L' = X) :
    iprop(∃ f, a.view.loc (c : Thread nD τ) ↦[a.view.set]{fullShare} a.view.writes (Elt Ideal) f L) ⊢ (owns (c : Thread nD τ) a fullShare X : sProp 𝕄) := by
  subst hL
  iintro ⟨%f, H⟩
  unfold owns
  iexists _; isplitr
  swap; · iexact H
  ipureintro; exact (View.read_writes_eq_canon _ _ _ hc).trans hX

variable (I : In) (n : ℕ) (hn11 : n < 11)
  (x2 x3 : Vec Ideal S1024x1024 .i8) (x4 x5 : Vec Ideal S1x1024 .i8) (x6 x7 : Vec Ideal S1x1024 .f32)
  (hA : I.Agree n x2 x3 x4 x5 x6 x7)

theorem cover_m (i : grid0.Coords) (a : Vec Ideal S1152x2048 .bf16) (s : Vec Ideal S1152x128 .f32) (y : S1152x1024.Idx) : ∃ p ∈ mPieces i x2 x3 x4 x5 x6 x7 a s, y ∈ p.1.set := by
  unfold mPieces; exact View.cover_of_tiled _ ![384, 256] rfl y

theorem cover_am (i : grid0.Coords) (a : Vec Ideal S1152x2048 .bf16) (s am : Vec Ideal S1152x128 .f32) (L' : List (View.Piece (Elt Ideal) S1152x128 .f32)) (y : S1152x128.Idx) : ∃ p ∈ amPieces i x2 x3 x4 x5 x6 x7 a s am ++ L', y ∈ p.1.set := by
  unfold amPieces
  obtain ⟨p, hp, h⟩ := View.cover_of_tiled (Val := Elt Ideal) (s := S1152x128) (e := .f32) [⟨Rect.unit ![768, 0] ![384, 128] (by decide), am4 i x2 x3 x4 x5 x6 x7 a s am 768 (by omega)⟩,
   ⟨Rect.unit ![384, 0] ![384, 128] (by decide), am4 i x2 x3 x4 x5 x6 x7 a s am 384 (by omega)⟩,
   ⟨Rect.unit ![0, 0] ![384, 128] (by decide), am4 i x2 x3 x4 x5 x6 x7 a s am 0 (by omega)⟩] ![384, 128] rfl y
  exact ⟨p, List.mem_append_left _ (List.mem_append_left [_, _, _, _, _, _, _, _, _] hp), h⟩

/-- A whole store leaves its payload. -/
theorem canon_whole2 {m n : ℕ} {e : EltTy} (X : Vec Ideal ⟨2, ![m, n]⟩ e) (inb : ∀ a, (![0, 0] : Fin 2 → ℕ) a + (![m, n] : Fin 2 → ℕ) a ≤ (![m, n] : Fin 2 → ℕ) a) :
    View.canon (Val := Elt Ideal) (s := ⟨2, ![m, n]⟩) [⟨Rect.unit ![0, 0] ![m, n] inb, X⟩] = X :=
  View.canon_unit_zero (funext fun a => by fin_cases a <;> rfl) inb X

theorem cover_whole2 {m n : ℕ} {e : EltTy} (X : Vec Ideal ⟨2, ![m, n]⟩ e) (inb : ∀ a, (![0, 0] : Fin 2 → ℕ) a + (![m, n] : Fin 2 → ℕ) a ≤ (![m, n] : Fin 2 → ℕ) a) (y : (⟨2, ![m, n]⟩ : Shape).Idx) :
    ∃ p ∈ ([⟨Rect.unit ![0, 0] ![m, n] inb, X⟩] : List (View.Piece (Elt Ideal) ⟨2, ![m, n]⟩ e)), y ∈ p.1.set :=
  ⟨⟨Rect.unit ![0, 0] ![m, n] inb, X⟩, List.mem_singleton_self _, (Rect.mem_set_unit (inb := inb)).mpr (Fin.forall_fin_two.mpr ⟨⟨Nat.zero_le _, by
    have h : (y 0).val < m := (y 0).isLt
    change (y 0).val < 0 + m; omega⟩, ⟨Nat.zero_le _, by
    have h : (y 1).val < n := (y 1).isLt
    change (y 1).val < 0 + n; omega⟩⟩)⟩

set_option maxHeartbeats 4000000 in
include hn11 hA in
/-- The first point: the scratch is filled, the product's first block stored. -/
theorem stepA (c : Dev nD) (i : grid0.Coords) (hn : (i 0).val = n) (hz : n = 0) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : cond0_0 i) (hc1 : ¬cond0_1 i) (xi9 : Vec Ideal S1x1152 .f32) (E : Set ℕ) (K : PUnit → sProp 𝕄) :
    iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (I.mblk n) ∗ owns (c : Thread nD τ) arg10 fullShare xi9 ∗ owns (c : Thread nD τ) arg11 fullShare (k0_pay3 I.codes) ∗ owns (c : Thread nD τ) arg12 fullShare (k0_pay4 I.sc) ∗ owns (c : Thread nD τ) arg13 fullShare (I.AM (n + 1))) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  have em := mA c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7
  have ea := amA c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7
  subst hz
  have e0 := aA c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7
  have e1 := sA c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7
  iintro ⟨H0, H1, H2, H3, H4, H5, H6, H7, H8, H9, S0, S1, S2, Hk⟩
  iapply ((kernelRunA c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7).2.2.2.2.property xi9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_writes c arg9 _ _ _ em (cover_m x2 x3 x4 x5 x6 x7 i _ _) (canon_m I i _ hn hn11 x2 x3 x4 x5 x6 x7 hA)); iexact H8
  isplitl [H9]; · iexact H9
  isplitl [S0]; · iapply (owns_writes c arg11 _ _ _ e0 (cover_whole2 _ _) (canon_whole2 _ _)); iexact S0
  isplitl [S1]; · iapply (owns_writes c arg12 _ _ _ e1 (cover_whole2 _ _) (canon_whole2 _ _)); iexact S1
  rw [pay5_eq I] at ea
  iapply (owns_writes c arg13 _ _ _ ea (cover_am x2 x3 x4 x5 x6 x7 i _ _ _ _) (canon_am I i _ hn hn11 x2 x3 x4 x5 x6 x7 hA _)); iexact S2

set_option maxHeartbeats 4000000 in
include hn11 hA in
/-- A middle point. -/
theorem stepB (c : Dev nD) (i : grid0.Coords) (hn : (i 0).val = n) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : ¬cond0_1 i) (xi9 : Vec Ideal S1x1152 .f32) (E : Set ℕ) (K : PUnit → sProp 𝕄) :
    iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare (k0_pay3 I.codes) ∗ owns (c : Thread nD τ) arg12 fullShare (k0_pay4 I.sc) ∗ owns (c : Thread nD τ) arg13 fullShare (I.AM n)
        ∗ (iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (I.mblk n) ∗ owns (c : Thread nD τ) arg10 fullShare xi9 ∗ owns (c : Thread nD τ) arg11 fullShare (k0_pay3 I.codes) ∗ owns (c : Thread nD τ) arg12 fullShare (k0_pay4 I.sc) ∗ owns (c : Thread nD τ) arg13 fullShare (I.AM (n + 1))) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  have em := mB c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)
  have ea := amB c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)
  iintro ⟨H0, H1, H2, H3, H4, H5, H6, H7, H8, H9, S0, S1, S2, Hk⟩
  iapply ((kernelRunB c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)).2.2.2.2.property xi9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_writes c arg9 _ _ _ em (cover_m x2 x3 x4 x5 x6 x7 i _ _) (canon_m I i _ hn hn11 x2 x3 x4 x5 x6 x7 hA)); iexact H8
  isplitl [H9]; · iexact H9
  isplitl [S0]; · iexact S0
  isplitl [S1]; · iexact S1
  iapply (owns_writes c arg13 _ _ _ (ea.trans (List.append_nil _).symm) (cover_am x2 x3 x4 x5 x6 x7 i _ _ _ _) (canon_am I i _ hn hn11 x2 x3 x4 x5 x6 x7 hA _)); iexact S2

set_option maxHeartbeats 4000000 in
include hn11 hA in
/-- The last point: the row of scales is stored too. -/
theorem stepC (c : Dev nD) (i : grid0.Coords) (hn : (i 0).val = n) (arg1 : Memref sig .tc .vmem S1152x2048 .i8) (harg1 : arg1.IsWhole) (arg2 : Memref sig .tc .vmem S1x1152 .f32) (harg2 : arg2.IsWhole) (arg3 : Memref sig .tc .vmem S1024x1024 .i8) (harg3 : arg3.IsWhole) (arg4 : Memref sig .tc .vmem S1024x1024 .i8) (harg4 : arg4.IsWhole) (arg5 : Memref sig .tc .vmem S1x1024 .i8) (harg5 : arg5.IsWhole) (arg6 : Memref sig .tc .vmem S1x1024 .i8) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1152x1024 .f32) (harg9 : arg9.IsWhole) (arg10 : Memref sig .tc .vmem S1x1152 .f32) (harg10 : arg10.IsWhole) (arg11 : Memref sig .tc .vmem S1152x2048 .bf16) (harg11 : arg11.IsWhole) (arg12 : Memref sig .tc .vmem S1152x128 .f32) (harg12 : arg12.IsWhole) (arg13 : Memref sig .tc .vmem S1152x128 .f32) (harg13 : arg13.IsWhole) (hc0 : ¬cond0_0 i) (hc1 : cond0_1 i) (E : Set ℕ) (K : PUnit → sProp 𝕄) :
    iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare (k0_pay3 I.codes) ∗ owns (c : Thread nD τ) arg12 fullShare (k0_pay4 I.sc) ∗ owns (c : Thread nD τ) arg13 fullShare (I.AM n)
        ∗ (iprop(owns (c : Thread nD τ) arg1 fullShare I.codes ∗ owns (c : Thread nD τ) arg2 fullShare I.sc ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (I.mblk n) ∗ owns (c : Thread nD τ) arg10 fullShare (k0_pay2 (I.AM (n + 1))) ∗ owns (c : Thread nD τ) arg11 fullShare (k0_pay3 I.codes) ∗ owns (c : Thread nD τ) arg12 fullShare (k0_pay4 I.sc) ∗ owns (c : Thread nD τ) arg13 fullShare (I.AM (n + 1))) -∗ K ⟨⟩))
      ⊢ wp frame (wpE (defs₀ (F := Ideal)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) K := by
  have em := mC c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)
  have ea := amC c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)
  have ed := dC c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)
  iintro ⟨H0, H1, H2, H3, H4, H5, H6, H7, H8, H9, S0, S1, S2, Hk⟩
  iapply ((kernelRunC c i arg1 harg1 arg2 harg2 arg3 harg3 arg4 harg4 arg5 harg5 arg6 harg6 arg7 harg7 arg8 harg8 arg9 harg9 arg10 harg10 arg11 harg11 arg12 harg12 arg13 harg13 hc0 hc1 I.codes I.sc x2 x3 x4 x5 x6 x7 (k0_pay3 I.codes) (k0_pay4 I.sc) (I.AM n)).2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_writes c arg9 _ _ _ em (cover_m x2 x3 x4 x5 x6 x7 i _ _) (canon_m I i _ hn hn11 x2 x3 x4 x5 x6 x7 hA)); iexact H8
  isplitl [H9]; · iapply (owns_writes c arg10 _ _ _ ed (cover_whole2 _ _) ((canon_whole2 _ _).trans (congrArg k0_pay2 ((congrArg View.canon (List.append_nil _).symm).trans (canon_am I i _ hn hn11 x2 x3 x4 x5 x6 x7 hA []))))); iexact H9
  isplitl [S0]; · iexact S0
  isplitl [S1]; · iexact S1
  iapply (owns_writes c arg13 _ _ _ (ea.trans (List.append_nil _).symm) (cover_am x2 x3 x4 x5 x6 x7 i _ _ _ _) (canon_am I i _ hn hn11 x2 x3 x4 x5 x6 x7 hA _)); iexact S2

end Cert.GateUpIdeal.Up

end
-- ==== Proof.Up.Blocks.lean ====
/- The windows of the first kernel: what each fetched block holds, in the whole arrays' terms. -/
module

public import proofs.«01_k».proof.Proof.Up.Step

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.ShloMosaic.Pipeline (Dat Cfg Window)

/-- A weight window's block: which columns it takes and how many lie inside the array. -/
abbrev ColFacts (w : Window sig grid0) (a0 a1 : Fin w.shape.rank) (rows : ℕ) (t : Fin grid0.N) : Prop :=
  w.index t a0 = 0 ∧ w.index t a1 = t.val ∧ w.xsize (grid0.coords t) a0 = rows ∧ w.xsize (grid0.coords t) a1 = min 1024 (11008 - t.val * 1024)

theorem facts2 : ∀ t : Fin grid0.N, ColFacts win0_2 (0 : Fin 2) (1 : Fin 2) 1024 t := by decide +kernel
theorem facts3 : ∀ t : Fin grid0.N, ColFacts win0_3 (0 : Fin 2) (1 : Fin 2) 1024 t := by decide +kernel
theorem facts4 : ∀ t : Fin grid0.N, ColFacts win0_4 (0 : Fin 2) (1 : Fin 2) 1 t := by decide +kernel
theorem facts5 : ∀ t : Fin grid0.N, ColFacts win0_5 (0 : Fin 2) (1 : Fin 2) 1 t := by decide +kernel
theorem facts6 : ∀ t : Fin grid0.N, ColFacts win0_6 (0 : Fin 2) (1 : Fin 2) 1 t := by decide +kernel
theorem facts7 : ∀ t : Fin grid0.N, ColFacts win0_7 (0 : Fin 2) (1 : Fin 2) 1 t := by decide +kernel
theorem facts8 : ∀ t : Fin grid0.N, ColFacts win0_8 (0 : Fin 2) (1 : Fin 2) 1152 t := by decide +kernel
theorem facts9 : ∀ t : Fin grid0.N, win0_9.index t (0 : Fin 2) = 0 ∧ win0_9.index t (1 : Fin 2) = 0 := by decide +kernel
theorem facts0 : ∀ t : Fin grid0.N, win0_0.index t (0 : Fin 2) = 0 ∧ win0_0.index t (1 : Fin 2) = 0 := by decide +kernel
theorem facts1 : ∀ t : Fin grid0.N, win0_1.index t (0 : Fin 2) = 0 ∧ win0_1.index t (1 : Fin 2) = 0 := by decide +kernel

variable (m : (ℓ : Loc nD τ sig) → Buf (Elt Ideal) ℓ) (c : Dev nD) (t : Fin cfg0.N)

/-- The call's operands as the kernel finds them. -/
def opnds : In :=
  ⟨V m c main_v0, V m c main_v1, V m c main_arg2, V m c main_arg5, V m c main_v2, V m c main_v3, V m c main_v4, V m c main_v5⟩

/-- Inside the columns, a fetched block holds the array's entries. -/
theorem fill2_at (d) (k q : Fin 1024) (h : t.val * 1024 + q.val < 11008) :
    win0_2.fill (grid0.coords t) d (iblk m c 2 t) (ix2 k q) = V m c main_arg2 (ix2 k ⟨_, h⟩) := by
  obtain ⟨i0, i1, s0, s1⟩ := facts2 t
  unfold Window.fill
  rw [dif_pos ((win0_2.moved_iff _ _).mpr (Fin.forall_fin_two.mpr ⟨lt_of_lt_of_eq k.isLt s0.symm, lt_of_lt_of_eq (show q.val < min 1024 (11008 - t.val * 1024) by omega) s1.symm⟩))]
  exact congrArg (V m c main_arg2) (funext (Fin.forall_fin_two.mpr
    ⟨Fin.ext ((win0_2.rect_emb_val t _ (0 : Fin 2)).trans (by rw [i0]; exact (congrArg (· + k.val) (Nat.zero_mul _)).trans (Nat.zero_add _))),
     Fin.ext ((win0_2.rect_emb_val t _ (1 : Fin 2)).trans (by rw [i1]; rfl))⟩))

theorem fill3_at (d) (k q : Fin 1024) (h : t.val * 1024 + q.val < 11008) :
    win0_3.fill (grid0.coords t) d (iblk m c 3 t) (ix2 k q) = V m c main_arg5 (ix2 k ⟨_, h⟩) := by
  obtain ⟨i0, i1, s0, s1⟩ := facts3 t
  unfold Window.fill
  rw [dif_pos ((win0_3.moved_iff _ _).mpr (Fin.forall_fin_two.mpr ⟨lt_of_lt_of_eq k.isLt s0.symm, lt_of_lt_of_eq (show q.val < min 1024 (11008 - t.val * 1024) by omega) s1.symm⟩))]
  exact congrArg (V m c main_arg5) (funext (Fin.forall_fin_two.mpr
    ⟨Fin.ext ((win0_3.rect_emb_val t _ (0 : Fin 2)).trans (by rw [i0]; exact (congrArg (· + k.val) (Nat.zero_mul _)).trans (Nat.zero_add _))),
     Fin.ext ((win0_3.rect_emb_val t _ (1 : Fin 2)).trans (by rw [i1]; rfl))⟩))

theorem fill4_at (d) (q : Fin 1024) (h : t.val * 1024 + q.val < 11008) :
    win0_4.fill (grid0.coords t) d (iblk m c 4 t) (ix2 0 q) = V m c main_v2 (ix2 0 ⟨_, h⟩) := by
  obtain ⟨i0, i1, s0, s1⟩ := facts4 t
  unfold Window.fill
  rw [dif_pos ((win0_4.moved_iff _ _).mpr (Fin.forall_fin_two.mpr ⟨lt_of_lt_of_eq Nat.one_pos s0.symm, lt_of_lt_of_eq (show q.val < min 1024 (11008 - t.val * 1024) by omega) s1.symm⟩))]
  exact congrArg (V m c main_v2) (funext (Fin.forall_fin_two.mpr
    ⟨Fin.ext ((win0_4.rect_emb_val t _ (0 : Fin 2)).trans (by rw [i0]; rfl)),
     Fin.ext ((win0_4.rect_emb_val t _ (1 : Fin 2)).trans (by rw [i1]; rfl))⟩))

theorem fill5_at (d) (q : Fin 1024) (h : t.val * 1024 + q.val < 11008) :
    win0_5.fill (grid0.coords t) d (iblk m c 5 t) (ix2 0 q) = V m c main_v3 (ix2 0 ⟨_, h⟩) := by
  obtain ⟨i0, i1, s0, s1⟩ := facts5 t
  unfold Window.fill
  rw [dif_pos ((win0_5.moved_iff _ _).mpr (Fin.forall_fin_two.mpr ⟨lt_of_lt_of_eq Nat.one_pos s0.symm, lt_of_lt_of_eq (show q.val < min 1024 (11008 - t.val * 1024) by omega) s1.symm⟩))]
  exact congrArg (V m c main_v3) (funext (Fin.forall_fin_two.mpr
    ⟨Fin.ext ((win0_5.rect_emb_val t _ (0 : Fin 2)).trans (by rw [i0]; rfl)),
     Fin.ext ((win0_5.rect_emb_val t _ (1 : Fin 2)).trans (by rw [i1]; rfl))⟩))

theorem fill6_at (d) (q : Fin 1024) (h : t.val * 1024 + q.val < 11008) :
    win0_6.fill (grid0.coords t) d (iblk m c 6 t) (ix2 0 q) = V m c main_v4 (ix2 0 ⟨_, h⟩) := by
  obtain ⟨i0, i1, s0, s1⟩ := facts6 t
  unfold Window.fill
  rw [dif_pos ((win0_6.moved_iff _ _).mpr (Fin.forall_fin_two.mpr ⟨lt_of_lt_of_eq Nat.one_pos s0.symm, lt_of_lt_of_eq (show q.val < min 1024 (11008 - t.val * 1024) by omega) s1.symm⟩))]
  exact congrArg (V m c main_v4) (funext (Fin.forall_fin_two.mpr
    ⟨Fin.ext ((win0_6.rect_emb_val t _ (0 : Fin 2)).trans (by rw [i0]; rfl)),
     Fin.ext ((win0_6.rect_emb_val t _ (1 : Fin 2)).trans (by rw [i1]; rfl))⟩))

theorem fill7_at (d) (q : Fin 1024) (h : t.val * 1024 + q.val < 11008) :
    win0_7.fill (grid0.coords t) d (iblk m c 7 t) (ix2 0 q) = V m c main_v5 (ix2 0 ⟨_, h⟩) := by
  obtain ⟨i0, i1, s0, s1⟩ := facts7 t
  unfold Window.fill
  rw [dif_pos ((win0_7.moved_iff _ _).mpr (Fin.forall_fin_two.mpr ⟨lt_of_lt_of_eq Nat.one_pos s0.symm, lt_of_lt_of_eq (show q.val < min 1024 (11008 - t.val * 1024) by omega) s1.symm⟩))]
  exact congrArg (V m c main_v5) (funext (Fin.forall_fin_two.mpr
    ⟨Fin.ext ((win0_7.rect_emb_val t _ (0 : Fin 2)).trans (by rw [i0]; rfl)),
     Fin.ext ((win0_7.rect_emb_val t _ (1 : Fin 2)).trans (by rw [i1]; rfl))⟩))

theorem agree (d2 d3 d4 d5 d6 d7) : (opnds m c).Agree t.val (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t))
    (win0_6.fill (grid0.coords t) d6 (iblk m c 6 t)) (win0_7.fill (grid0.coords t) d7 (iblk m c 7 t)) :=
  ⟨fill2_at m c t d2, fill3_at m c t d3, fill4_at m c t d4, fill5_at m c t d5, fill6_at m c t d6, fill7_at m c t d7⟩

/-- The first two windows take their whole arrays. -/
theorem blk0 : iblk m c 0 t = V m c main_v0 := by
  obtain ⟨i0, i1⟩ := facts0 t
  funext y
  exact congrArg (V m c main_v0) (funext (Fin.forall_fin_two.mpr
    ⟨Fin.ext ((win0_0.rect_emb_val t _ (0 : Fin 2)).trans (by rw [i0]; exact (congrArg (· + (y 0).val) (Nat.zero_mul _)).trans (Nat.zero_add _))),
     Fin.ext ((win0_0.rect_emb_val t _ (1 : Fin 2)).trans (by rw [i1]; exact (congrArg (· + (y 1).val) (Nat.zero_mul _)).trans (Nat.zero_add _)))⟩))

theorem blk1 : iblk m c 1 t = V m c main_v1 := by
  obtain ⟨i0, i1⟩ := facts1 t
  funext y
  exact congrArg (V m c main_v1) (funext (Fin.forall_fin_two.mpr
    ⟨Fin.ext ((win0_1.rect_emb_val t _ (0 : Fin 2)).trans (by rw [i0]; exact (congrArg (· + (y 0).val) (Nat.zero_mul _)).trans (Nat.zero_add _))),
     Fin.ext ((win0_1.rect_emb_val t _ (1 : Fin 2)).trans (by rw [i1]; exact (congrArg (· + (y 1).val) (Nat.zero_mul _)).trans (Nat.zero_add _)))⟩))

end Cert.GateUpIdeal.Up

end
-- ==== Proof.Up.Frame.lean ====
/- The first kernel over the reals: each point's body against the pipeline's data, the whole run, and the frame. -/
module

public import proofs.«01_k».proof.Proof.Up.Blocks
public import Idealize.ShloMosaic.Lib.Claim

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The three scratch buffers after `n` points: the widened codes, the scales, the running maxima. -/
def PhiS (c : Dev nD) (n : ℕ) : sProp 𝕄 :=
  iprop(iprop(owns (c : Thread nD τ) (Memref.whole cc0_scratch0) fullShare (k0_pay3 (opnds m c).codes) ∗ owns (c : Thread nD τ) (Memref.whole cc0_scratch1) fullShare (k0_pay4 (opnds m c).sc) ∗ owns (c : Thread nD τ) (Memref.whole cc0_scratch2) fullShare ((opnds m c).AM n)) ∗ (∃ r, prngReg c r))

/-- The invariant: before the first point the scratch at anything, then as above. -/
def Phi (c : Dev nD) : ℕ → sProp 𝕄
  | 0 => Pipeline.ΦA spec0 c
  | n + 1 => PhiS m c (n + 1)

theorem Phi_pos (c : Dev nD) (n : ℕ) (h : n ≠ 0) : Phi m c n = PhiS m c n := by
  cases n with
  | zero => exact absurd rfl h
  | succ n => rfl

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => (opnds m c).codes
    | ⟨1, _⟩ => (opnds m c).sc
    | ⟨2, _⟩ => win0_2.fill (grid0.coords t) (Pipeline.Dat.unnamed (cfg := cfg0) (2 : Fin 10) t) (iblk m c 2 t)
    | ⟨3, _⟩ => win0_3.fill (grid0.coords t) (Pipeline.Dat.unnamed (cfg := cfg0) (3 : Fin 10) t) (iblk m c 3 t)
    | ⟨4, _⟩ => win0_4.fill (grid0.coords t) (Pipeline.Dat.unnamed (cfg := cfg0) (4 : Fin 10) t) (iblk m c 4 t)
    | ⟨5, _⟩ => win0_5.fill (grid0.coords t) (Pipeline.Dat.unnamed (cfg := cfg0) (5 : Fin 10) t) (iblk m c 5 t)
    | ⟨6, _⟩ => win0_6.fill (grid0.coords t) (Pipeline.Dat.unnamed (cfg := cfg0) (6 : Fin 10) t) (iblk m c 6 t)
    | ⟨7, _⟩ => win0_7.fill (grid0.coords t) (Pipeline.Dat.unnamed (cfg := cfg0) (7 : Fin 10) t) (iblk m c 7 t)
    | ⟨8, _⟩ => (opnds m c).mblk t.val
    | ⟨9, _⟩ => k0_pay2 ((opnds m c).AM (t.val + 1))
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by rw [blk0]; dsimp only [dats, opnds]
theorem after0_1 (c : Dev nD) (t : Fin cfg0.N) : (dats m 0 c).after 1 t = iblk m c 1 t := by rw [blk1]; dsimp only [dats, opnds]
theorem after0_2 (c : Dev nD) (t : Fin cfg0.N) : (dats m 0 c).after 2 t = win0_2.fill (grid0.coords t) (Pipeline.Dat.unnamed (cfg := cfg0) (2 : Fin 10) t) (iblk m c 2 t) := by dsimp only [dats]
theorem after0_3 (c : Dev nD) (t : Fin cfg0.N) : (dats m 0 c).after 3 t = win0_3.fill (grid0.coords t) (Pipeline.Dat.unnamed (cfg := cfg0) (3 : Fin 10) t) (iblk m c 3 t) := by dsimp only [dats]
theorem after0_4 (c : Dev nD) (t : Fin cfg0.N) : (dats m 0 c).after 4 t = win0_4.fill (grid0.coords t) (Pipeline.Dat.unnamed (cfg := cfg0) (4 : Fin 10) t) (iblk m c 4 t) := by dsimp only [dats]
theorem after0_5 (c : Dev nD) (t : Fin cfg0.N) : (dats m 0 c).after 5 t = win0_5.fill (grid0.coords t) (Pipeline.Dat.unnamed (cfg := cfg0) (5 : Fin 10) t) (iblk m c 5 t) := by dsimp only [dats]
theorem after0_6 (c : Dev nD) (t : Fin cfg0.N) : (dats m 0 c).after 6 t = win0_6.fill (grid0.coords t) (Pipeline.Dat.unnamed (cfg := cfg0) (6 : Fin 10) t) (iblk m c 6 t) := by dsimp only [dats]
theorem after0_7 (c : Dev nD) (t : Fin cfg0.N) : (dats m 0 c).after 7 t = win0_7.fill (grid0.coords t) (Pipeline.Dat.unnamed (cfg := cfg0) (7 : Fin 10) t) (iblk m c 7 t) := by dsimp only [dats]
theorem after0_8 (c : Dev nD) (t : Fin cfg0.N) : (dats m 0 c).after 8 t = (opnds m c).mblk t.val := by dsimp only [dats]
theorem after0_9 (c : Dev nD) (t : Fin cfg0.N) : (dats m 0 c).after 9 t = k0_pay2 ((opnds m c).AM (t.val + 1)) := by dsimp only [dats]

/-- What the body finds in a fetched buffer. -/
theorem before0_0 (c : Dev nD) (t : Fin cfg0.N) (d) : (dats m 0 c).before 0 t d = (opnds m c).codes :=
  (before0_0_of m (dats m 0 c) (A_eq m c 0) (after0_0 m c) t d).trans (blk0 m c t)
theorem before0_1 (c : Dev nD) (t : Fin cfg0.N) (d) : (dats m 0 c).before 1 t d = (opnds m c).sc :=
  (before0_1_of m (dats m 0 c) (A_eq m c 1) (after0_1 m c) t d).trans (blk1 m c t)
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (d) : (dats m 0 c).before 5 t d = win0_5.fill (grid0.coords t) d (iblk m c 5 t) := by
  unfold Dat.before; rw [if_pos (fetch0_5 t)]; rfl
theorem before0_6 (c : Dev nD) (t : Fin cfg0.N) (d) : (dats m 0 c).before 6 t d = win0_6.fill (grid0.coords t) d (iblk m c 6 t) := by
  unfold Dat.before; rw [if_pos (fetch0_6 t)]; rfl
theorem before0_7 (c : Dev nD) (t : Fin cfg0.N) (d) : (dats m 0 c).before 7 t d = win0_7.fill (grid0.coords t) d (iblk m c 7 t) := by
  unfold Dat.before; rw [if_pos (fetch0_7 t)]; rfl

theorem coord_val (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

theorem idle9 : ∀ t : Fin cfg0.N, t.val ≠ 10 → cfg0.idle 9 (grid0.coords t) = true := by decide +kernel
theorem noFlush9 : ∀ t : Fin cfg0.N, t.val ≠ 10 → (cfg0.win 9).flush t = false := by decide +kernel
theorem live9 : ∀ t : Fin cfg0.N, t.val = 10 → cfg0.idle 9 (grid0.coords t) = false := by decide +kernel

theorem leaves9_idle (c : Dev nD) (t : Fin cfg0.N) (h : t.val ≠ 10) :
    (dats m 0 c).leaves 9 t = (iprop(∃ d, owns (c : Thread nD τ) (win0_9.stage (cfg0.slots t 9)) fullShare ((dats m 0 c).before 9 t d)) : sProp 𝕄) := by
  unfold Dat.leaves; rw [idle9 t h, noFlush9 t h]
theorem leaves9_C (c : Dev nD) (t : Fin cfg0.N) (h : t.val = 10) :
    (dats m 0 c).leaves 9 t = (owns (c : Thread nD τ) (win0_9.stage (cfg0.slots t 9)) fullShare (k0_pay2 ((opnds m c).AM (t.val + 1))) : sProp 𝕄) := by
  unfold Dat.leaves; rw [live9 t h, after0_9]

/-- The kernel's invariant with the three scratch operands as memrefs. -/
theorem PhiA0_eq' (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]

/-- The body table's row at a point is the body at the point's staging memrefs. -/
theorem defs₀_row (t : Fin cfg0.N) :
    defs₀ (F := Ideal) .tc cfg0.body (cfg0.bodyArgs t (cfg0.slots t)) = bodyAt0 t := by
  unfold defs₀; rw [Defs.onTc_tc]

set_option maxHeartbeats 8000000 in
/-- The body at a point. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))
      ⊢ wp frame (wpE (defs₀ (F := Ideal)) Variants.none c none) Set.univ (bodyAt0 t) (fun _ =>
    iprop((dats m 0 c).Φ t.succ ∗ (dats m 0 c).owesAt () t.succ
      ∗ owns (c : Thread nD τ) (win0_0.stage (cfg0.slots t 0)) fullShare (opnds m c).codes ∗ owns (c : Thread nD τ) (win0_1.stage (cfg0.slots t 1)) fullShare (opnds m c).sc ∗ (∃ d, owns (c : Thread nD τ) (win0_2.stage (cfg0.slots t 2)) fullShare (win0_2.fill (grid0.coords t) d (win0_2.cut (grid0.coords t) ((dats m 0 c).after 2 t)))) ∗ (∃ d, owns (c : Thread nD τ) (win0_3.stage (cfg0.slots t 3)) fullShare (win0_3.fill (grid0.coords t) d (win0_3.cut (grid0.coords t) ((dats m 0 c).after 3 t)))) ∗ (∃ d, owns (c : Thread nD τ) (win0_4.stage (cfg0.slots t 4)) fullShare (win0_4.fill (grid0.coords t) d (win0_4.cut (grid0.coords t) ((dats m 0 c).after 4 t)))) ∗ (∃ d, owns (c : Thread nD τ) (win0_5.stage (cfg0.slots t 5)) fullShare (win0_5.fill (grid0.coords t) d (win0_5.cut (grid0.coords t) ((dats m 0 c).after 5 t)))) ∗ (∃ d, owns (c : Thread nD τ) (win0_6.stage (cfg0.slots t 6)) fullShare (win0_6.fill (grid0.coords t) d (win0_6.cut (grid0.coords t) ((dats m 0 c).after 6 t)))) ∗ (∃ d, owns (c : Thread nD τ) (win0_7.stage (cfg0.slots t 7)) fullShare (win0_7.fill (grid0.coords t) d (win0_7.cut (grid0.coords t) ((dats m 0 c).after 7 t)))) ∗ (∃ d, owns (c : Thread nD τ) (win0_8.stage (cfg0.slots t 8)) fullShare (win0_8.fill (grid0.coords t) d (win0_8.cut (grid0.coords t) ((dats m 0 c).after 8 t)))) ∗ (dats m 0 c).leaves 9 t)) := by
  have hN : t.val < 11 := Nat.lt_of_lt_of_eq t.isLt N_0
  unfold bodyAt0
  rw [show (dats m 0 c).owesAt () t.succ = (dats m 0 c).owesAt () t.castSucc from rfl,
    show (dats m 0 c).Φ t.castSucc = Phi m c t.val from rfl, show (dats m 0 c).Φ t.succ = PhiS m c (t.val + 1) from rfl]
  simp only [before0_0, before0_1, before0_2, before0_3, before0_4, before0_5, before0_6, before0_7]
  by_cases h0 : t.val = 0
  · rw [show Phi m c t.val = Pipeline.ΦA spec0 c from by rw [h0]; rfl, PhiA0_eq']
    unfold PhiS
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hc0 : cond0_0 (grid0.coords t) := ((hcond0_0 t).mpr (by rw [h0]))
    have hc1 : ¬cond0_1 (grid0.coords t) := (fun h => by have := (hcond0_1 t).mp h; omega)
    iapply (stepA (opnds m c) t.val hN (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (agree m c t d2 d3 d4 d5 d6 d7) c (grid0.coords t) (coord_val t) h0 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) hc0 hc1 ((dats m 0 c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexists d2; rw [after0_2, win0_2.cut_fill]; iexact H2
    isplitl [H3]; · iexists d3; rw [after0_3, win0_3.cut_fill]; iexact H3
    isplitl [H4]; · iexists d4; rw [after0_4, win0_4.cut_fill]; iexact H4
    isplitl [H5]; · iexists d5; rw [after0_5, win0_5.cut_fill]; iexact H5
    isplitl [H6]; · iexists d6; rw [after0_6, win0_6.cut_fill]; iexact H6
    isplitl [H7]; · iexists d7; rw [after0_7, win0_7.cut_fill]; iexact H7
    isplitl [H8]; · iexists (dats m 0 c).after 8 t; rw [win0_8.fill_cut, after0_8]; iexact H8
    rw [leaves9_idle m c t (by omega)]; iexists d9; iexact H9
  rw [Phi_pos m c _ h0]
  unfold PhiS
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h1 : t.val = 10
  · have hc0 : ¬cond0_0 (grid0.coords t) := (fun h => h0 (by have := (hcond0_0 t).mp h; omega))
    have hc1 : cond0_1 (grid0.coords t) := ((hcond0_1 t).mpr (by rw [h1]))
    iapply (stepC (opnds m c) t.val hN (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (agree m c t d2 d3 d4 d5 d6 d7) c (grid0.coords t) (coord_val t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexists d2; rw [after0_2, win0_2.cut_fill]; iexact H2
    isplitl [H3]; · iexists d3; rw [after0_3, win0_3.cut_fill]; iexact H3
    isplitl [H4]; · iexists d4; rw [after0_4, win0_4.cut_fill]; iexact H4
    isplitl [H5]; · iexists d5; rw [after0_5, win0_5.cut_fill]; iexact H5
    isplitl [H6]; · iexists d6; rw [after0_6, win0_6.cut_fill]; iexact H6
    isplitl [H7]; · iexists d7; rw [after0_7, win0_7.cut_fill]; iexact H7
    isplitl [H8]; · iexists (dats m 0 c).after 8 t; rw [win0_8.fill_cut, after0_8]; iexact H8
    rw [leaves9_C m c t h1]; iexact H9
  · have hc0 : ¬cond0_0 (grid0.coords t) := (fun h => h0 (by have := (hcond0_0 t).mp h; omega))
    have hc1 : ¬cond0_1 (grid0.coords t) := (fun h => h1 (by have := (hcond0_1 t).mp h; omega))
    iapply (stepB (opnds m c) t.val hN (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (agree m c t d2 d3 d4 d5 d6 d7) c (grid0.coords t) (coord_val t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) hc0 hc1 ((dats m 0 c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexists d2; rw [after0_2, win0_2.cut_fill]; iexact H2
    isplitl [H3]; · iexists d3; rw [after0_3, win0_3.cut_fill]; iexact H3
    isplitl [H4]; · iexists d4; rw [after0_4, win0_4.cut_fill]; iexact H4
    isplitl [H5]; · iexists d5; rw [after0_5, win0_5.cut_fill]; iexact H5
    isplitl [H6]; · iexists d6; rw [after0_6, win0_6.cut_fill]; iexact H6
    isplitl [H7]; · iexists d7; rw [after0_7, win0_7.cut_fill]; iexact H7
    isplitl [H8]; · iexists (dats m 0 c).after 8 t; rw [win0_8.fill_cut, after0_8]; iexact H8
    rw [leaves9_idle m c t (by omega)]; iexists d9; iexact H9

/-- The library's body obligation. -/
theorem body_obligation (c : Dev nD) : BodyObligationLoose (dats m 0 c) (defs₀ (F := Ideal)) Variants.none () Set.univ := fun t => by
  rw [bigSep_W0, bigSep_W0, defs₀_row]; dsimp only
  exact triple_restated (sound_body m c t) rfl .rfl fun _ => .rfl

/-- What the launch hands the region is the invariant before the first point. -/
theorem hin (c : Dev nD) : Pipeline.ΦA spec0 c ⊢ (dats m 0 c).Φ 0 := .rfl

/-- After the last point the invariant gives it back. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [show cfg0.N = 11 from N_0]; decide), PhiA0_eq']
  unfold PhiS
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- the launch theorem's implicit arguments are found by unifying its conclusion with this one
set_option backward.isDefEq.respectTransparency.types false in
/-- The run: every array of the pipeline ends at what the data says, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.GateUpIdeal.Up

end
-- ==== Proof.Up.Value.lean ====
/- The arrays the first kernel leaves, in closed form, and its run with them. -/
module

public import proofs.«01_k».proof.Proof.Up.Frame

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The product's array. -/
def G8 (c : Dev nD) : Buf (Elt Ideal) ((c : Thread nD τ).loc main_v6_0) := fun i => (opnds m c).M ⟨(i 0).val, (i 0).isLt⟩ ⟨(i 1).val, (i 1).isLt⟩

set_option maxHeartbeats 1000000 in
theorem flushed8_eq (c : Dev nD) (t : Fin cfg0.N) : (dats m 0 c).flushed 8 t = ((cfg0.win 8).blk t).view.read (Elt Ideal) (G8 m c) := by
  show (cfg0.win 8).cut (grid0.coords t) ((dats m 0 c).after 8 t) = _
  rw [after0_8]
  obtain ⟨i0, i1, s0, s1⟩ := facts8 t
  funext y
  have b0 := win0_8.rect_emb_val t y (0 : Fin 2)
  have b1 := win0_8.rect_emb_val t y (1 : Fin 2)
  rw [i0] at b0; rw [i1] at b1
  have b0' : (((cfg0.win 8).blk t).view.emb y 0).val = (y 0).val := b0.trans ((congrArg (· + (y 0).val) (Nat.zero_mul _)).trans (Nat.zero_add _))
  have b1' : (((cfg0.win 8).blk t).view.emb y 1).val = t.val * 1024 + (y 1).val := b1
  have hlt : t.val * 1024 + (y 1).val < 11008 := b1' ▸ (((cfg0.win 8).blk t).view.emb y 1).isLt
  show (opnds m c).cell t.val ⟨(y 0).val, _⟩ (y 1).val = (opnds m c).M ⟨(((cfg0.win 8).blk t).view.emb y 0).val, _⟩ ⟨(((cfg0.win 8).blk t).view.emb y 1).val, _⟩
  unfold In.cell
  rw [dif_pos hlt]
  exact congr (congrArg _ (Fin.ext b0'.symm)) (Fin.ext b1'.symm)

theorem cover8 (i : S1152x11008.Idx) : ∃ t : Fin cfg0.N, (cfg0.win 8).flush t = true ∧ i ∈ ((cfg0.win 8).blk t).view.set := by
  have h0 : (i 0).val < 1152 := (i 0).isLt
  have h1 : (i 1).val < 11008 := (i 1).isLt
  let t : Fin grid0.N := ⟨(i 1).val / 1024, lt_of_lt_of_eq (by omega) N_0.symm⟩
  obtain ⟨i0, i1, s0, s1⟩ := facts8 t
  refine ⟨t, flush0_8 t, ?_⟩
  show i ∈ ((View.whole main_v6_0).slice (win0_8.rect t)).set
  rw [View.set_slice_whole, Rect.mem_set_unit]
  have ht : t.val = (i 1).val / 1024 := rfl
  refine Fin.forall_fin_two.mpr ⟨?_, ?_⟩
  · show win0_8.index t (0 : Fin 2) * 1152 ≤ (i 0).val ∧ (i 0).val < win0_8.index t (0 : Fin 2) * 1152 + win0_8.xsize (grid0.coords t) (0 : Fin 2)
    rw [i0, s0]; omega
  · show win0_8.index t (1 : Fin 2) * 1024 ≤ (i 1).val ∧ (i 1).val < win0_8.index t (1 : Fin 2) * 1024 + win0_8.xsize (grid0.coords t) (1 : Fin 2)
    rw [i1, s1]; omega

theorem final8 (c : Dev nD) : (dats m 0 c).arrAt 8 cfg0.N = G8 m c :=
  (dats m 0 c).arrAt_eq_of_cover 8 _ (fun t hf => flushed8_eq m c t) cover8

/-- The scales' array. -/
def G9 (c : Dev nD) : Buf (Elt Ideal) ((c : Thread nD τ).loc main_v6_1) := k0_pay2 (F := Ideal) ((opnds m c).AM 11)

/-- The whole-array block reads an array as it is. -/
theorem whole9 (t : Fin cfg0.N) (c : Dev nD) (G : Buf (Elt Ideal) ((c : Thread nD τ).loc main_v6_1)) :
    (cfg0.win 9).cut (grid0.coords t) G = ((cfg0.win 9).blk t).view.read (Elt Ideal) G := by
  obtain ⟨i0, i1⟩ := facts9 t
  funext y
  exact congrArg G (funext (Fin.forall_fin_two.mpr
    ⟨Fin.ext ((win0_9.rect_emb_val t _ (0 : Fin 2)).trans (by rw [i0]; exact (congrArg (· + (y 0).val) (Nat.zero_mul _)).trans (Nat.zero_add _))).symm,
     Fin.ext ((win0_9.rect_emb_val t _ (1 : Fin 2)).trans (by rw [i1]; exact (congrArg (· + (y 1).val) (Nat.zero_mul _)).trans (Nat.zero_add _))).symm⟩))

theorem flushed9_eq (c : Dev nD) (t : Fin cfg0.N) (hf : (cfg0.win 9).flush t = true) : (dats m 0 c).flushed 9 t = ((cfg0.win 9).blk t).view.read (Elt Ideal) (G9 m c) := by
  have hm : t.val % 11 = 10 := (flush0_9 t).mp hf
  have hN : t.val < 11 := t.isLt.trans_eq N_0
  have ht : t.val + 1 = 11 := by omega
  rw [← whole9 t c]
  show (cfg0.win 9).cut (grid0.coords t) ((dats m 0 c).after 9 t) = _
  rw [after0_9, ht]
  rfl

theorem cover9 (i : S1x1152.Idx) : ∃ t : Fin cfg0.N, (cfg0.win 9).flush t = true ∧ i ∈ ((cfg0.win 9).blk t).view.set := by
  have h0 : (i 0).val < 1 := (i 0).isLt
  have h1 : (i 1).val < 1152 := (i 1).isLt
  let t : Fin grid0.N := ⟨10, lt_of_lt_of_eq (by omega) N_0.symm⟩
  obtain ⟨i0, i1⟩ := facts9 t
  refine ⟨t, (flush0_9 t).mpr rfl, ?_⟩
  show i ∈ ((View.whole main_v6_1).slice (win0_9.rect t)).set
  rw [View.set_slice_whole, Rect.mem_set_unit]
  refine Fin.forall_fin_two.mpr ⟨?_, ?_⟩
  · show win0_9.index t (0 : Fin 2) * 1 ≤ (i 0).val ∧ (i 0).val < win0_9.index t (0 : Fin 2) * 1 + 1
    rw [i0]; omega
  · show win0_9.index t (1 : Fin 2) * 1152 ≤ (i 1).val ∧ (i 1).val < win0_9.index t (1 : Fin 2) * 1152 + 1152
    rw [i1]; omega

theorem final9 (c : Dev nD) : (dats m 0 c).arrAt 9 cfg0.N = G9 m c :=
  (dats m 0 c).arrAt_eq_of_cover 9 _ (fun t hf => flushed9_eq m c t hf) cover9

/-- The run with its arrays. -/
theorem run : θ_run defs (onTc (τ := τ) (main (F := Ideal))) ⟨m, fun _ => 0, ρ⟩ fun r => ∀ c : Dev nD,
      (r.2.mem ((c : Thread nD τ).loc main_v6_0) = G8 m c
      ∧ r.2.mem ((c : Thread nD τ).loc main_v6_1) = G9 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨⟨((h.1 c).1 8).trans (final8 m c), ((h.1 c).1 9).trans (final9 m c)⟩, h.2 c⟩)
    (θ_run_and (run_main m ρ) (frame_of m ρ (dats m) (A_eq m) (run_main m ρ)))

end Cert.GateUpIdeal.Up

end
-- ==== Proof.Up.Max.lean ====
/- The running maxima after the last point, folded over the 128 lanes, are the maximum over all 11008 columns. -/
module

public import proofs.«01_k».proof.Proof.Up.Cell

@[expose] public section

noncomputable section

namespace Cert.GateUpIdeal.Up

open Cert.GateUpIdeal Cert.GateUpIdeal.Gen
open Idealize.ShloMosaic Idealize.ShloMosaic.TcCoe Idealize.ShloMosaic.Tactic

variable (I : In)

theorem ab_nonneg (x : EReal) : 0 ≤ ab x := by
  show (0 : EReal) ≤ max x (-x)
  rcases le_total 0 x with h | h
  · exact le_max_of_le_left h
  · exact le_max_of_le_right (EReal.neg_nonneg.2 h)

theorem ab_zero : ab 0 = 0 := by
  show max (0 : EReal) (-0) = 0
  simp

/-- One running maximum's upper bounds. -/
theorem am_le_iff (n : ℕ) (r : Fin 1152) (l : ℕ) (x : EReal) :
    I.am n r l ≤ x ↔ 0 ≤ x ∧ ∀ b < n, ∀ e < 8, ab (I.cell b r (128 * e + l)) ≤ x := by
  induction n with
  | zero => simp [In.am]
  | succ n ih =>
    have hs : I.am (n + 1) r l ≤ x ↔ I.am n r l ≤ x ∧ ∀ e < 8, ab (I.cell n r (128 * e + l)) ≤ x := by
      show I.up n r l 768 (I.up n r l 512 (I.up n r l 256 (I.up n r l 0 (I.am n r l)))) ≤ x ↔ _
      unfold In.up
      simp only [max_le_iff]
      constructor
      · rintro ⟨⟨⟨⟨h, h0, h1⟩, h2, h3⟩, h4, h5⟩, h6, h7⟩
        refine ⟨h, fun e he => ?_⟩
        interval_cases e
        · exact h0
        · rw [show 128 * 1 + l = 0 + (128 + l) by omega]; exact h1
        · exact h2
        · rw [show 128 * 3 + l = 256 + (128 + l) by omega]; exact h3
        · exact h4
        · rw [show 128 * 5 + l = 512 + (128 + l) by omega]; exact h5
        · exact h6
        · rw [show 128 * 7 + l = 768 + (128 + l) by omega]; exact h7
      · rintro ⟨h, hh⟩
        refine ⟨⟨⟨⟨h, hh 0 (by omega), ?_⟩, hh 2 (by omega), ?_⟩, hh 4 (by omega), ?_⟩, hh 6 (by omega), ?_⟩
        · rw [show 0 + (128 + l) = 128 * 1 + l by omega]; exact hh 1 (by omega)
        · rw [show 256 + (128 + l) = 128 * 3 + l by omega]; exact hh 3 (by omega)
        · rw [show 512 + (128 + l) = 128 * 5 + l by omega]; exact hh 5 (by omega)
        · rw [show 768 + (128 + l) = 128 * 7 + l by omega]; exact hh 7 (by omega)
    rw [hs, ih]
    constructor
    · rintro ⟨⟨h, hb⟩, hn⟩
      refine ⟨h, fun b hb' => ?_⟩
      rcases Nat.lt_succ_iff_lt_or_eq.1 hb' with h' | rfl
      · exact hb b h'
      · exact hn
    · rintro ⟨h, hb⟩
      exact ⟨⟨h, fun b hb' => hb b (by omega)⟩, hb n (by omega)⟩

/-- The maximum of a row of the product, in absolute value. -/
def In.top (I : In) (r : Fin 1152) : EReal := Finset.univ.fold max ⊥ (fun j : Fin 11008 => ab (I.M r j))

theorem top_le_iff (r : Fin 1152) (x : EReal) : I.top r ≤ x ↔ ∀ j : Fin 11008, ab (I.M r j) ≤ x := by
  unfold In.top
  rw [Finset.fold_max_le]
  simp

/-- The lanes' maxima and the row's agree. -/
theorem lanes_eq_top (r : Fin 1152) : Finset.univ.fold max ⊥ (fun l : Fin 128 => I.am 11 r l) = I.top r := by
  refine eq_of_forall_ge_iff fun x => ?_
  rw [Finset.fold_max_le, top_le_iff]
  simp only [am_le_iff, bot_le, true_and, Finset.mem_univ, forall_const]
  constructor
  · intro h j
    have hj := j.isLt
    have := (h ⟨j.val % 128, by omega⟩).2 (j.val / 1024) (by omega) (j.val % 1024 / 128) (by omega)
    unfold In.cell at this
    rw [dif_pos (by simp only []; omega)] at this
    convert this using 3
    apply Fin.ext; simp only []; omega
  · intro h l
    refine ⟨(ab_nonneg _).trans (h 0), fun b hb e he => ?_⟩
    unfold In.cell
    split_ifs with hc
    · exact h _
    · rw [ab_zero]; exact (ab_nonneg _).trans (h 0)

/-- The scale of a row from its maximum. -/
def scaleOf (a : EReal) : EReal := if a = 0 then 1 else Ideal.div a (Ideal.ofBits .f32 1123942400#32)

theorem pay2_eq (r : Fin 1152) : k0_pay2 (F := Ideal) (I.AM 11) (ix2 0 r) = scaleOf (I.top r) := by
  have hb : Ideal.ofBits .f32 4286578688#32 = (⊥ : EReal) := by simp [Ideal.ofBits, Ideal.ieee]
  have h : k0_pay2 (F := Ideal) (I.AM 11) (ix2 0 r) = if Finset.fold max (Ideal.ofBits .f32 4286578688#32) (fun l => I.AM 11 (ix2 r l)) Finset.univ = 0 then 1 else Ideal.div (Finset.fold max (Ideal.ofBits .f32 4286578688#32) (fun l => I.AM 11 (ix2 r l)) Finset.univ) (Ideal.ofBits .f32 1123942400#32) := by
    pointwise [k0_pay2]
  rw [h, hb]
  have : Finset.fold max (⊥ : EReal) (fun l : Fin 128 => I.AM 11 (ix2 r l)) Finset.univ = I.top r := lanes_eq_top I r
  rw [this]; rfl

end Cert.GateUpIdeal.Up

end
-- ==== Proof.Ref.Acc.lean ====
/- The reference's integer accumulators: two dot products of 8-bit codes with 4-bit weights, less the zero point times the
   codes' sum, all in 32-bit words, is the exact integer `∑ a (w - z)` (no word overflows at these lengths). -/
module

public import proofs.«01_k».proof.Proof.Gen.GateUpRefIdeal.Frame
public import proofs.«01_k».proof.Proof.Up.Point
public import Idealize.ShloMosaic.Lib.IntMxu
public import Idealize.ShloMosaic.Lib.WordSum

@[expose] public section

noncomputable section

namespace Cert.GateUpRefIdeal.Ref

open Cert.GateUpRefIdeal Cert.GateUpRefIdeal.Gen
open Idealize.ShloMosaic Idealize.ShloMosaic.TcCoe Idealize.ShloMosaic.Tactic
open Cert.GateUpIdeal.Up (nib ir proj gated)

/-- A one-axis contraction of 1024 positions, summed by its coordinate. -/
def contrE : dot_S1152x1024_S1024x11008_S1152x11008_1_0_0_1_n_n.contr.Idx ≃ Fin 1024 :=
  ValueIdx.contrEquiv1 _ 1024 rfl rfl

theorem lhsIdx_eq (r : Fin 1152) (j : Fin 11008) (k : Fin 1024) :
    dot_S1152x1024_S1024x11008_S1152x11008_1_0_0_1_n_n.lhsIdx (ix2 r j) (contrE.symm k) = ix2 r k := by
  have hk := ValueIdx.contrEquiv1_symm_val dot_S1152x1024_S1024x11008_S1152x11008_1_0_0_1_n_n 1024 rfl rfl k
  funext a; apply Fin.ext
  match a with
  | ⟨0, _⟩ => rfl
  | ⟨1, _⟩ => exact hk
theorem rhsIdx_eq (r : Fin 1152) (j : Fin 11008) (k : Fin 1024) :
    dot_S1152x1024_S1024x11008_S1152x11008_1_0_0_1_n_n.rhsIdx (ix2 r j) (contrE.symm k) = ix2 k j := by
  have hk := ValueIdx.contrEquiv1_symm_val dot_S1152x1024_S1024x11008_S1152x11008_1_0_0_1_n_n 1024 rfl rfl k
  funext a; apply Fin.ext
  match a with
  | ⟨0, _⟩ => exact hk
  | ⟨1, _⟩ => rfl

/-- A dot product of codes with 4-bit weights, as a word. -/
theorem mm_apply (a : IVec S1152x1024 8) (q : IVec S1024x11008 8) (r : Fin 1152) (j : Fin 11008)
    (hq : ∀ k : Fin 1024, (q (ix2 k j)).toInt.natAbs ≤ 15) :
    matmulI8 IntMxuNumerics.v7x dot_S1152x1024_S1024x11008_S1152x11008_1_0_0_1_n_n a q (constantI S1152x11008 32 0#32) (ix2 r j)
      = BitVec.ofInt 32 (∑ k : Fin 1024, (a (ix2 r k)).toInt * (q (ix2 k j)).toInt) := by
  rw [matmulI8_exact _ _ a q _ _ rfl]
  · unfold dotI8
    rw [← Equiv.sum_comp contrE.symm]
    simp only [lhsIdx_eq, rhsIdx_eq]
  · unfold absDotI8
    rw [← Equiv.sum_comp contrE.symm]
    simp only [lhsIdx_eq, rhsIdx_eq]
    refine (Finset.sum_le_card_nsmul Finset.univ _ (128 * 15) fun k _ => ?_).trans (by simp)
    rw [Int.natAbs_mul]
    exact Nat.mul_le_mul (natAbs_toInt_i8_le _) (hq k)

/-- A row's sum of codes, as a word. -/
theorem rs_apply (a : IVec S1152x1024 8) (r : Fin 1152) :
    multiReductionI .add [1] S1152 (extsi 32 a natLt_8_32) 0#32 reduces_S1152x1024_S1152 rfl (ix1 r)
      = BitVec.ofInt 32 (∑ k : Fin 1024, (a (ix2 r k)).toInt) := by
  refine (congrFun (multiReductionI_eq_reduceFold .add _ _ _ rfl) _).trans ?_
  show reduceFold reduces_S1152x1024_S1152 (· + ·) (0#32 : BitVec 32) _ (ix1 r) = _
  rw [reduceFold_add_eq_sum, Shape.Reduces.sum_filter_drop_single, show (0#32 : BitVec 32) = 0 from rfl, zero_add]
  show _ = ((∑ k : Fin 1024, (a (ix2 r k)).toInt : ℤ) : BitVec 32)
  rw [Int.cast_sum]
  refine Finset.sum_congr rfl fun k _ => ?_
  show BitVec.ofInt 32 _ = BitVec.ofInt 32 _
  congr 3
  funext d; apply Fin.ext
  match d with
  | ⟨0, _⟩ => rfl
  | ⟨1, _⟩ => rfl

theorem lo_eq (b : BitVec 8) : (((b.zeroExtend 32 &&& 15#32)).truncate 8).toInt = (b.toNat % 16 : ℕ) := by
  revert b; decide +kernel
theorem hi_eq (b : BitVec 8) : ((((b.zeroExtend 32).sshiftRight 4)).truncate 8).toInt = (b.toNat / 16 : ℕ) := by
  revert b; decide +kernel

/-- The low and the high halves of the packed weights. -/
def lo (w : IVec S1024x11008 8) : IVec S1024x11008 8 := trunci 8 (andi (extui 32 w natLt_8_32) (broadcast S1024x11008 15#32)) natLt_8_32
def hi (w : IVec S1024x11008 8) : IVec S1024x11008 8 := trunci 8 (shrsi (extui 32 w natLt_8_32) (broadcast S1024x11008 4#32)) natLt_8_32

theorem lo_apply (w : IVec S1024x11008 8) (i : S1024x11008.Idx) : (lo w i).toInt = ((w i).toNat % 16 : ℕ) := lo_eq (w i)
theorem hi_apply (w : IVec S1024x11008 8) (i : S1024x11008.Idx) : (hi w i).toInt = ((w i).toNat / 16 : ℕ) := hi_eq (w i)

/-- One accumulator, as the reference writes it. -/
def acc (e o : IVec S1152x1024 8) (w : IVec S1024x11008 8) (z : IVec S1x11008 8) : IVec S1152x11008 32 :=
  addi (subi (matmulI8 IntMxuNumerics.v7x dot_S1152x1024_S1024x11008_S1152x11008_1_0_0_1_n_n e (lo w) (constantI S1152x11008 32 0#32))
      (muli (broadcastTo S1152x11008 (extsi 32 z natLt_8_32) broadcasts_S1x11008_S1152x11008)
        (broadcastTo S1152x11008 (addi (shapeCast S1152x1 (multiReductionI .add [1] S1152 (extsi 32 e natLt_8_32) 0#32 reduces_S1152x1024_S1152 rfl) shapeCasts_S1152_S1152x1)
          (shapeCast S1152x1 (multiReductionI .add [1] S1152 (extsi 32 o natLt_8_32) 0#32 reduces_S1152x1024_S1152 rfl) shapeCasts_S1152_S1152x1)) broadcasts_S1152x1_S1152x11008)))
    (matmulI8 IntMxuNumerics.v7x dot_S1152x1024_S1024x11008_S1152x11008_1_0_0_1_n_n o (hi w) (constantI S1152x11008 32 0#32))

theorem col_apply (v : IVec S1152 32) (r : Fin 1152) : shapeCast S1152x1 v shapeCasts_S1152_S1152x1 (ix2 r 0) = v (ix1 r) := by
  pointwise
theorem bz_apply (v : IVec S1x11008 32) (r : Fin 1152) (j : Fin 11008) : broadcastTo S1152x11008 v broadcasts_S1x11008_S1152x11008 (ix2 r j) = v (ix2 0 j) := by
  pointwise
theorem br_apply (v : IVec S1152x1 32) (r : Fin 1152) (j : Fin 11008) : broadcastTo S1152x11008 v broadcasts_S1152x1_S1152x11008 (ix2 r j) = v (ix2 r 0) := by
  pointwise

/-- The exact integer an accumulator stands for. -/
def accZ (e o : IVec S1152x1024 8) (w : IVec S1024x11008 8) (z : IVec S1x11008 8) (r : Fin 1152) (j : Fin 11008) : ℤ :=
  ∑ k : Fin 1024, ((e (ix2 r k)).toInt * (((w (ix2 k j)).toNat % 16 : ℕ) - (z (ix2 0 j)).toInt) + (o (ix2 r k)).toInt * (((w (ix2 k j)).toNat / 16 : ℕ) - (z (ix2 0 j)).toInt))

theorem accZ_eq (e o : IVec S1152x1024 8) (w : IVec S1024x11008 8) (z : IVec S1x11008 8) (r : Fin 1152) (j : Fin 11008) :
    accZ e o w z r j = ((∑ k : Fin 1024, (e (ix2 r k)).toInt * (lo w (ix2 k j)).toInt)
      - (z (ix2 0 j)).toInt * ((∑ k : Fin 1024, (e (ix2 r k)).toInt) + (∑ k : Fin 1024, (o (ix2 r k)).toInt)))
      + ∑ k : Fin 1024, (o (ix2 r k)).toInt * (hi w (ix2 k j)).toInt := by
  simp only [lo_apply, hi_apply]
  unfold accZ
  rw [mul_add, Finset.mul_sum, Finset.mul_sum, ← Finset.sum_add_distrib, ← Finset.sum_sub_distrib, ← Finset.sum_add_distrib]
  exact Finset.sum_congr rfl fun k _ => by ring

theorem word_ring (x y s t u : ℤ) :
    BitVec.ofInt 32 x - BitVec.ofInt 32 y * (BitVec.ofInt 32 s + BitVec.ofInt 32 t) + BitVec.ofInt 32 u = BitVec.ofInt 32 ((x - y * (s + t)) + u) := by
  show ((x : BitVec 32) - (y : BitVec 32) * ((s : BitVec 32) + (t : BitVec 32))) + (u : BitVec 32) = (((x - y * (s + t)) + u : ℤ) : BitVec 32)
  push_cast
  rfl

theorem acc_word (e o : IVec S1152x1024 8) (w : IVec S1024x11008 8) (z : IVec S1x11008 8) (r : Fin 1152) (j : Fin 11008) :
    acc e o w z (ix2 r j) = BitVec.ofInt 32 (accZ e o w z r j) := by
  have h1 := mm_apply e (lo w) r j (fun k => by rw [lo_apply]; omega)
  have h2 := mm_apply o (hi w) r j (fun k => by rw [hi_apply]; have := (w (ix2 k j)).isLt; omega)
  rw [accZ_eq]
  show (_ - _ * _) + _ = _
  rw [h1, h2, br_apply, bz_apply]
  show (_ - _ * (_ + _)) + _ = _
  rw [col_apply, col_apply, rs_apply, rs_apply]
  exact word_ring _ _ _ _ _

theorem accZ_bound (e o : IVec S1152x1024 8) (w : IVec S1024x11008 8) (z : IVec S1x11008 8) (r : Fin 1152) (j : Fin 11008) :
    |accZ e o w z r j| ≤ 1024 * (2 * (128 * 143)) := by
  unfold accZ
  refine (Finset.abs_sum_le_sum_abs _ _).trans ((Finset.sum_le_card_nsmul Finset.univ _ (2 * (128 * 143)) fun k _ => ?_).trans (by simp))
  have hz := natAbs_toInt_i8_le (z (ix2 0 j))
  have he := natAbs_toInt_i8_le (e (ix2 r k))
  have ho := natAbs_toInt_i8_le (o (ix2 r k))
  have hw := (w (ix2 k j)).isLt
  refine (abs_add_le _ _).trans ?_
  rw [abs_mul, abs_mul, two_mul]
  refine add_le_add (mul_le_mul ?_ ?_ (abs_nonneg _) (by norm_num)) (mul_le_mul ?_ ?_ (abs_nonneg _) (by norm_num)) <;> rw [abs_le] <;> omega

theorem acc_toInt (e o : IVec S1152x1024 8) (w : IVec S1024x11008 8) (z : IVec S1x11008 8) (r : Fin 1152) (j : Fin 11008) :
    (acc e o w z (ix2 r j)).toInt = accZ e o w z r j := by
  rw [acc_word, BitVec.toInt_ofInt]
  have := abs_le.1 (accZ_bound e o w z r j)
  apply Int.bmod_eq_of_le <;> omega

/-- A sum over 2048 positions by its even and odd ones. -/
theorem sum_pairs {M : Type} [AddCommMonoid M] (f : Fin 2048 → M) :
    ∑ k : Fin 2048, f k = ∑ k : Fin 1024, (f ⟨2 * k, by omega⟩ + f ⟨2 * k + 1, by omega⟩) := by
  rw [← Equiv.sum_comp (finProdFinEquiv : Fin 1024 × Fin 2 ≃ Fin 2048) f, Fintype.sum_prod_type]
  refine Finset.sum_congr rfl fun k _ => ?_
  rw [Fin.sum_univ_two]
  congr 2 <;> apply Fin.ext <;> simp [finProdFinEquiv] <;> omega

theorem ir_sum {ι : Type} (s : Finset ι) (f : ι → ℤ) : ir (∑ k ∈ s, f k) = ∑ k ∈ s, ir (f k) := by
  classical
  refine Finset.induction_on s (by simp [ir]) fun a s ha ih => ?_
  rw [Finset.sum_insert ha, Finset.sum_insert ha, ← ih]
  simp [ir]

/-- The accumulator as the real sum of a projection. -/
theorem ir_accZ (e o : IVec S1152x1024 8) (w : IVec S1024x11008 8) (z : IVec S1x11008 8) (r : Fin 1152) (j : Fin 11008) (A : Fin 2048 → BitVec 8)
    (he : ∀ k : Fin 1024, e (ix2 r k) = A ⟨2 * k, by omega⟩) (ho : ∀ k : Fin 1024, o (ix2 r k) = A ⟨2 * k + 1, by omega⟩) :
    ir (accZ e o w z r j) = ∑ k : Fin 2048, ir (A k).toInt * (ir (nib (w (ix2 ⟨k / 2, by omega⟩ j)) k) - ir (z (ix2 0 j)).toInt) := by
  rw [sum_pairs]
  unfold accZ
  rw [ir_sum]
  refine Finset.sum_congr rfl fun k _ => ?_
  have h0 : (⟨(2 * k.val) / 2, by omega⟩ : Fin 1024) = k := Fin.ext (by show (2 * k.val) / 2 = _; omega)
  have h1 : (⟨(2 * k.val + 1) / 2, by omega⟩ : Fin 1024) = k := Fin.ext (by show (2 * k.val + 1) / 2 = _; omega)
  simp only [h0, h1, he, ho]
  unfold nib
  rw [if_pos (by omega), if_neg (by omega)]
  simp only [ir]
  push_cast
  rfl

end Cert.GateUpRefIdeal.Ref
-- ==== Proof.Ref.Pay.lean ====
/- What the reference's body computes, at an index: the gated product and the row's scale, as the first kernel's closed form. -/
module

public import proofs.«01_k».proof.Proof.Ref.Acc
public import proofs.«01_k».proof.Proof.Up.Max

@[expose] public section

noncomputable section

namespace Cert.GateUpRefIdeal.Ref

open Cert.GateUpRefIdeal Cert.GateUpRefIdeal.Gen
open Idealize.ShloMosaic Idealize.ShloMosaic.TcCoe Idealize.ShloMosaic.Tactic
open Cert.GateUpIdeal.Up (nib ir proj gated In ab scaleOf)

/-- One projection, as the reference writes it. -/
def prj (s : FVec Ideal S1152x1 .f32) (e o : IVec S1152x1024 8) (w : IVec S1024x11008 8) (v : FVec Ideal S1x11008 .f32) (z : IVec S1x11008 8) : FVec Ideal S1152x11008 .f32 :=
  mulf (mulf (sitofp .f32 (acc e o w z)) (broadcastTo S1152x11008 s broadcasts_S1152x1_S1152x11008)) (broadcastTo S1152x11008 v broadcasts_S1x11008_S1152x11008)

theorem bzf_apply (v : FVec Ideal S1x11008 .f32) (r : Fin 1152) (j : Fin 11008) : broadcastTo S1152x11008 v broadcasts_S1x11008_S1152x11008 (ix2 r j) = v (ix2 0 j) := by
  pointwise
theorem brf_apply (v : FVec Ideal S1152x1 .f32) (r : Fin 1152) (j : Fin 11008) : broadcastTo S1152x11008 v broadcasts_S1152x1_S1152x11008 (ix2 r j) = v (ix2 r 0) := by
  pointwise

theorem prj_apply (s : FVec Ideal S1152x1 .f32) (e o : IVec S1152x1024 8) (w : IVec S1024x11008 8) (v : FVec Ideal S1x11008 .f32) (z : IVec S1x11008 8) (r : Fin 1152) (j : Fin 11008)
    (A : Fin 2048 → BitVec 8)
    (he : ∀ k : Fin 1024, e (ix2 r k) = A ⟨2 * k, by omega⟩) (ho : ∀ k : Fin 1024, o (ix2 r k) = A ⟨2 * k + 1, by omega⟩) :
    prj s e o w v z (ix2 r j) = proj (fun k => ir (A k).toInt) (fun k => w (ix2 k j)) (z (ix2 0 j)) (s (ix2 r 0)) (v (ix2 0 j)) := by
  show ir (acc e o w z (ix2 r j)).toInt * broadcastTo S1152x11008 s broadcasts_S1152x1_S1152x11008 (ix2 r j) * broadcastTo S1152x11008 v broadcasts_S1x11008_S1152x11008 (ix2 r j) = _
  rw [bzf_apply, brf_apply, acc_toInt, ir_accZ e o w z r j A he ho]
  rfl

theorem pay3_eq (v0 : Vec Ideal S1152x1 .f32) (v2 v4 : Vec Ideal S1152x1024 .i8) (v6 : Vec Ideal S1024x11008 .i8) (v7 : Vec Ideal S1x11008 .f32) (v9 : Vec Ideal S1x11008 .i8) :
    k0_pay3 v0 v2 v4 v6 v7 v9 = prj v0 v2 v4 v6 v7 v9 := by
  show prj (shapeCast S1152x1 v0 shapeCasts_S1152x1_S1152x1) (shapeCast S1152x1024 v2 shapeCasts_S1152x1024_S1152x1024) (shapeCast S1152x1024 v4 shapeCasts_S1152x1024_S1152x1024) v6
    (shapeCast S1x11008 v7 shapeCasts_S1x11008_S1x11008) (shapeCast S1x11008 v9 shapeCasts_S1x11008_S1x11008) = _
  rw [shapeCast_self, shapeCast_self, shapeCast_self, shapeCast_self, shapeCast_self]

theorem pay5_eq (v1 : FVec Ideal S1152x1 .f32) (g : FVec Ideal S1152x11008 .f32) (e : IVec S1152x1024 8) (o : Vec Ideal S1152x1024 .i8) (w : Vec Ideal S1024x11008 .i8) (v : Vec Ideal S1x11008 .f32) (z : Vec Ideal S1x11008 .i8) :
    k0_pay5 v1 g e o w v z = mulf (mulf g (logistic g)) (prj v1 e o w v z) := by
  show mulf (mulf g (logistic g)) (prj v1 e (shapeCast S1152x1024 o shapeCasts_S1152x1024_S1152x1024) w
    (shapeCast S1x11008 v shapeCasts_S1x11008_S1x11008) (shapeCast S1x11008 z shapeCasts_S1x11008_S1x11008)) = _
  rw [shapeCast_self, shapeCast_self, shapeCast_self]

/-- The whole body's product, of its nine operands. -/
def refM (x0 x1 : Vec Ideal S1152x1024 .i8) (x2 : Vec Ideal S1152x1 .f32) (x3 : Vec Ideal S1024x11008 .i8) (x4 : Vec Ideal S1x11008 .f32) (x5 : Vec Ideal S1x11008 .i8) (x6 : Vec Ideal S1024x11008 .i8) (x7 : Vec Ideal S1x11008 .f32) (x8 : Vec Ideal S1x11008 .i8) : FVec Ideal S1152x11008 .f32 :=
  mulf (mulf (prj x2 x0 x1 x3 x4 x5) (logistic (prj x2 x0 x1 x3 x4 x5))) (prj x2 x0 x1 x6 x7 x8)

/-- A row's maximum. -/
def refTop (v : FVec Ideal S1152x11008 .f32) : FVec Ideal S1152 .f32 :=
  multiReduction .maximumf [1] S1152 (absf v) 0xFF800000#32 reduces_S1152x11008_S1152 (.inl rfl) rfl

theorem pay6_eq (v1 : FVec Ideal S1152x1 .f32) (g : FVec Ideal S1152x11008 .f32) (e : IVec S1152x1024 8) (o : Vec Ideal S1152x1024 .i8) (w : Vec Ideal S1024x11008 .i8) (v : Vec Ideal S1x11008 .f32) (z : Vec Ideal S1x11008 .i8) :
    k0_pay6 v1 g e o w v z = shapeCast S1152x1 (refTop (mulf (mulf g (logistic g)) (prj v1 e o w v z))) shapeCasts_S1152_S1152x1 := by
  unfold k0_pay6
  rw [pay5_eq]
  rfl

theorem pay2_id (v : Vec Ideal S1152x1 .f32) : k0_pay2 v = v := shapeCast_self v _
theorem pay4_id (v : Vec Ideal S1152x1024 .i8) : k0_pay4 (F := Ideal) v = v := shapeCast_self v _

theorem z2 : (![0, 0] : Fin 2 → ℕ) = fun _ => 0 := funext fun a => by fin_cases a <;> rfl

theorem out9_eq (x0 x1 : Vec Ideal S1152x1024 .i8) (x2 : Vec Ideal S1152x1 .f32) (x3 : Vec Ideal S1024x11008 .i8) (x4 : Vec Ideal S1x11008 .f32) (x5 : Vec Ideal S1x11008 .i8) (x6 : Vec Ideal S1024x11008 .i8) (x7 : Vec Ideal S1x11008 .f32) (x8 : Vec Ideal S1x11008 .i8) :
    out0_9 x0 x1 x2 x3 x4 x5 x6 x7 x8 = refM x0 x1 x2 x3 x4 x5 x6 x7 x8 := by
  unfold out0_9 k0_pay7 k0_pay8 k0_pay9
  rw [View.canon_unit_zero z2, pay5_eq, pay3_eq, pay2_id, pay4_id, View.ld_unit_zero (S := S1152x1) z2, View.ld_unit_zero (S := S1152x1024) z2, View.ld_unit_zero (S := S1152x1024) z2,
    View.ld_unit_zero (S := S1024x11008) z2, View.ld_unit_zero (S := S1024x11008) z2, View.ld_unit_zero (S := S1x11008) z2, View.ld_unit_zero (S := S1x11008) z2, View.ld_unit_zero (S := S1x11008) z2, View.ld_unit_zero (S := S1x11008) z2]
  unfold refM
  rfl

theorem out10_eq (x0 x1 : Vec Ideal S1152x1024 .i8) (x2 : Vec Ideal S1152x1 .f32) (x3 : Vec Ideal S1024x11008 .i8) (x4 : Vec Ideal S1x11008 .f32) (x5 : Vec Ideal S1x11008 .i8) (x6 : Vec Ideal S1024x11008 .i8) (x7 : Vec Ideal S1x11008 .f32) (x8 : Vec Ideal S1x11008 .i8) :
    out0_10 x0 x1 x2 x3 x4 x5 x6 x7 x8 = k0_pay1 (shapeCast S1152x1 (refTop (refM x0 x1 x2 x3 x4 x5 x6 x7 x8)) shapeCasts_S1152_S1152x1) (Scalar.ofBits .f32 0x00000000#32) := by
  unfold out0_10 k0_pay7 k0_pay8 k0_pay9
  rw [View.canon_unit_zero z2, pay6_eq, pay3_eq, pay2_id, pay4_id, View.ld_unit_zero (S := S1152x1) z2, View.ld_unit_zero (S := S1152x1024) z2, View.ld_unit_zero (S := S1152x1024) z2,
    View.ld_unit_zero (S := S1024x11008) z2, View.ld_unit_zero (S := S1024x11008) z2, View.ld_unit_zero (S := S1x11008) z2, View.ld_unit_zero (S := S1x11008) z2, View.ld_unit_zero (S := S1x11008) z2, View.ld_unit_zero (S := S1x11008) z2]
  unfold refM
  rfl

theorem scale_apply (v : FVec Ideal S1152 .f32) (r : Fin 1152) :
    k0_pay1 (F := Ideal) (shapeCast S1152x1 v shapeCasts_S1152_S1152x1) (Scalar.ofBits .f32 0x00000000#32) (ix2 0 r) = scaleOf (v (ix1 r)) := by
  pointwise [k0_pay1, scaleOf]

theorem refTop_apply (v : FVec Ideal S1152x11008 .f32) (r : Fin 1152) :
    refTop v (ix1 r) = Finset.univ.fold max ⊥ (fun j : Fin 11008 => ab (v (ix2 r j))) := by
  have hb : Ideal.ofBits .f32 4286578688#32 = (⊥ : EReal) := by simp [Ideal.ofBits, Ideal.ieee]
  rw [← hb]
  pointwise [refTop]

variable (I : In) (x0 x1 : Vec Ideal S1152x1024 .i8) (x2 : Vec Ideal S1152x1 .f32)
  (he : ∀ (r : Fin 1152) (k : Fin 1024), x0 (ix2 r k) = I.codes (ix2 r ⟨2 * k, by omega⟩))
  (ho : ∀ (r : Fin 1152) (k : Fin 1024), x1 (ix2 r k) = I.codes (ix2 r ⟨2 * k + 1, by omega⟩))
  (hs : ∀ r : Fin 1152, x2 (ix2 r 0) = I.sc (ix2 0 r))

include he ho hs in
theorem refM_apply (r : Fin 1152) (j : Fin 11008) :
    refM x0 x1 x2 I.cg I.sg I.zg I.cu I.su I.zu (ix2 r j) = I.M r j := by
  show gated (prj x2 x0 x1 I.cg I.sg I.zg (ix2 r j)) (prj x2 x0 x1 I.cu I.su I.zu (ix2 r j)) = _
  rw [prj_apply _ _ _ _ _ _ r j (fun k => I.codes (ix2 r k)) (he r) (ho r), prj_apply _ _ _ _ _ _ r j (fun k => I.codes (ix2 r k)) (he r) (ho r), hs]
  rfl

include he ho hs in
theorem refScale_apply (r : Fin 1152) :
    k0_pay1 (F := Ideal) (shapeCast S1152x1 (refTop (refM x0 x1 x2 I.cg I.sg I.zg I.cu I.su I.zu)) shapeCasts_S1152_S1152x1) (Scalar.ofBits .f32 0x00000000#32) (ix2 0 r) = scaleOf (I.top r) := by
  rw [scale_apply, refTop_apply]
  simp only [refM_apply I x0 x1 x2 he ho hs]
  rfl

end Cert.GateUpRefIdeal.Ref

end
-- ==== Proof.Ref.Final.lean ====
/- The arrays the reference leaves, in closed form, from the eight arguments. -/
module

public import proofs.«01_k».proof.Proof.Ref.Pay
public import proofs.«01_k».proof.Proof.Gen.GateUpRefIdeal.Value
public import Idealize.ShloMosaic.Lib.Pipeline.Value

@[expose] public section

set_option maxRecDepth 16384

noncomputable section

namespace Cert.GateUpRefIdeal.Ref

open Cert.GateUpRefIdeal Cert.GateUpRefIdeal.Gen
open Idealize.ShloMosaic Idealize.ShloMosaic.TcCoe Idealize.ShloMosaic.Tactic
open Cert.GateUpIdeal.Up (nib ir proj gated In ab scaleOf)
open Idealize.SL.Sem
open Idealize.ShloMosaic.Pipeline (Dat Cfg Window)

/-- The call's operands, of its eight arguments. -/
def ofArgs (a0 : Vec Ideal S3x384x2048 .i8) (a1 : Vec Ideal S3x384 .f32) (a2 : Vec Ideal S1024x11008 .i8) (a3 : Vec Ideal S11008 .f32) (a4 : Vec Ideal S11008 .i8)
    (a5 : Vec Ideal S1024x11008 .i8) (a6 : Vec Ideal S11008 .f32) (a7 : Vec Ideal S11008 .i8) : In where
  codes := shapeCast S1152x2048 a0 shapeCasts_S3x384x2048_S1152x2048
  sc := shapeCast S1x1152 a1 Cert.GateUpIdeal.Gen.shapeCasts_S3x384_S1x1152
  cg := a2
  cu := a5
  zg := broadcastInDim S1x11008 ![1] bcast_S11008_S1x11008_1 a4
  zu := broadcastInDim S1x11008 ![1] bcast_S11008_S1x11008_1 a7
  sg := broadcastInDim S1x11008 ![1] bcast_S11008_S1x11008_1 a3
  su := broadcastInDim S1x11008 ![1] bcast_S11008_S1x11008_1 a6

theorem even_apply (X : Vec Ideal S1152x2048 .i8) (r : Fin 1152) (k : Fin 1024) :
    Host.slice S1152x1024 ![0, 0] ![1, 2] X slicesBy_S1152x2048_S1152x1024_0s1_0s2 (ix2 r k) = X (ix2 r ⟨2 * k, by omega⟩) := by
  refine congrArg X (funext fun d => Fin.ext ?_)
  match d with
  | ⟨0, _⟩ => show 0 + 1 * r.val = r.val; omega
  | ⟨1, _⟩ => show 0 + 2 * k.val = 2 * k.val; omega
theorem odd_apply (X : Vec Ideal S1152x2048 .i8) (r : Fin 1152) (k : Fin 1024) :
    Host.slice S1152x1024 ![0, 1] ![1, 2] X slicesBy_S1152x2048_S1152x1024_0s1_1s2 (ix2 r k) = X (ix2 r ⟨2 * k + 1, by omega⟩) := by
  refine congrArg X (funext fun d => Fin.ext ?_)
  match d with
  | ⟨0, _⟩ => show 0 + 1 * r.val = r.val; omega
  | ⟨1, _⟩ => show 1 + 2 * k.val = 2 * k.val + 1; omega
theorem scales_apply (X : Vec Ideal S3x384 .f32) (h) (r : Fin 1152) :
    shapeCast S1152x1 X shapeCasts_S3x384_S1152x1 (ix2 r 0) = shapeCast (⟨2, ![1, 1152]⟩ : Shape) X h (ix2 0 r) := by
  pointwise

variable (m : (ℓ : Loc nD τ sig) → Buf (Elt Ideal) ℓ) (ρ : Dev nD → PrngReg)

/-- The one grid point. -/
def t₀ : Fin cfg0.N := ⟨0, by decide⟩

theorem eq_t₀ (t : Fin cfg0.N) : t = t₀ := Fin.ext (by have := t.isLt.trans_eq (show cfg0.N = 1 by decide); show t.val = 0; omega)

/-- The operands of the reference's call, of its arguments. -/
def ins (c : Dev nD) : In :=
  ofArgs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- An offset that is zero on both axes. -/
theorem z2' (f : Fin 2 → ℕ) (h0 : f 0 = 0) (h1 : f 1 = 0) : f = fun _ => 0 := funext (Fin.forall_fin_two.mpr ⟨h0, h1⟩)

theorem blk0 (c : Dev nD) : iblk m c 0 t₀ = Host.slice S1152x1024 ![0, 0] ![1, 2] (ins m c).codes slicesBy_S1152x2048_S1152x1024_0s1_0s2 := by
  refine (Memref.read_access_unit_zero (Elt Ideal) main_v1 (z2' _ (by decide +kernel) (by decide +kernel)) (fun a => by fin_cases a <;> decide) (V m c main_v1)).trans ?_
  entry_read; rfl
theorem blk1 (c : Dev nD) : iblk m c 1 t₀ = Host.slice S1152x1024 ![0, 1] ![1, 2] (ins m c).codes slicesBy_S1152x2048_S1152x1024_0s1_1s2 := by
  refine (Memref.read_access_unit_zero (Elt Ideal) main_v2 (z2' _ (by decide +kernel) (by decide +kernel)) (fun a => by fin_cases a <;> decide) (V m c main_v2)).trans ?_
  entry_read; rfl
theorem blk2 (c : Dev nD) : iblk m c 2 t₀ = shapeCast S1152x1 (m ((c : Thread nD τ).loc main_arg1)) shapeCasts_S3x384_S1152x1 := by
  refine (Memref.read_access_unit_zero (Elt Ideal) main_v3 (z2' _ (by decide +kernel) (by decide +kernel)) (fun a => by fin_cases a <;> decide) (V m c main_v3)).trans ?_
  entry_read; rfl
theorem blk3 (c : Dev nD) : iblk m c 3 t₀ = (ins m c).cg := by
  refine (Memref.read_access_unit_zero (Elt Ideal) main_arg2 (z2' _ (by decide +kernel) (by decide +kernel)) (fun a => by fin_cases a <;> decide) (V m c main_arg2)).trans ?_
  entry_read; rfl
theorem blk4 (c : Dev nD) : iblk m c 4 t₀ = (ins m c).sg := by
  refine (Memref.read_access_unit_zero (Elt Ideal) main_v4 (z2' _ (by decide +kernel) (by decide +kernel)) (fun a => by fin_cases a <;> decide) (V m c main_v4)).trans ?_
  entry_read; rfl
theorem blk5 (c : Dev nD) : iblk m c 5 t₀ = (ins m c).zg := by
  refine (Memref.read_access_unit_zero (Elt Ideal) main_v5 (z2' _ (by decide +kernel) (by decide +kernel)) (fun a => by fin_cases a <;> decide) (V m c main_v5)).trans ?_
  entry_read; rfl
theorem blk6 (c : Dev nD) : iblk m c 6 t₀ = (ins m c).cu := by
  refine (Memref.read_access_unit_zero (Elt Ideal) main_arg5 (z2' _ (by decide +kernel) (by decide +kernel)) (fun a => by fin_cases a <;> decide) (V m c main_arg5)).trans ?_
  entry_read; rfl
theorem blk7 (c : Dev nD) : iblk m c 7 t₀ = (ins m c).su := by
  refine (Memref.read_access_unit_zero (Elt Ideal) main_v6 (z2' _ (by decide +kernel) (by decide +kernel)) (fun a => by fin_cases a <;> decide) (V m c main_v6)).trans ?_
  entry_read; rfl
theorem blk8 (c : Dev nD) : iblk m c 8 t₀ = (ins m c).zu := by
  refine (Memref.read_access_unit_zero (Elt Ideal) main_v7 (z2' _ (by decide +kernel) (by decide +kernel)) (fun a => by fin_cases a <;> decide) (V m c main_v7)).trans ?_
  entry_read; rfl

/-- The product's array. -/
def G9 (c : Dev nD) : Buf (Elt Ideal) ((c : Thread nD τ).loc main_v8_0) := fun i => (ins m c).M ⟨(i 0).val, (i 0).isLt⟩ ⟨(i 1).val, (i 1).isLt⟩
/-- The scales' array. -/
def G10 (c : Dev nD) : Buf (Elt Ideal) ((c : Thread nD τ).loc main_v8_1) := fun i => scaleOf ((ins m c).top ⟨(i 1).val, (i 1).isLt⟩)

theorem out9_apply (c : Dev nD) :
    out0_9 (iblk m c 0 t₀) (iblk m c 1 t₀) (iblk m c 2 t₀) (iblk m c 3 t₀) (iblk m c 4 t₀) (iblk m c 5 t₀) (iblk m c 6 t₀) (iblk m c 7 t₀) (iblk m c 8 t₀) = G9 m c := by
  rw [out9_eq, blk0, blk1, blk2, blk3, blk4, blk5, blk6, blk7, blk8]
  funext i
  obtain ⟨r, j, rfl⟩ : ∃ (r : Fin 1152) (j : Fin 11008), i = ix2 r j := ⟨i 0, i 1, eq_ix2 i⟩
  exact refM_apply (ins m c) _ _ _ (even_apply _) (odd_apply _) (scales_apply _ _) r j

theorem out10_apply (c : Dev nD) :
    out0_10 (iblk m c 0 t₀) (iblk m c 1 t₀) (iblk m c 2 t₀) (iblk m c 3 t₀) (iblk m c 4 t₀) (iblk m c 5 t₀) (iblk m c 6 t₀) (iblk m c 7 t₀) (iblk m c 8 t₀) = G10 m c := by
  rw [out10_eq, blk0, blk1, blk2, blk3, blk4, blk5, blk6, blk7, blk8]
  funext i
  obtain ⟨q, r, rfl⟩ : ∃ (q : Fin 1) (r : Fin 1152), i = ix2 q r := ⟨i 0, i 1, eq_ix2 i⟩
  obtain rfl : q = 0 := Subsingleton.elim _ _
  exact refScale_apply (ins m c) _ _ _ (even_apply _) (odd_apply _) (scales_apply _ _) r

theorem whole9 (c : Dev nD) (G : Buf (Elt Ideal) ((c : Thread nD τ).loc main_v8_0)) :
    ((cfg0.win 9).blk t₀).view.read (Elt Ideal) G = G :=
  Memref.read_access_unit_zero (Elt Ideal) main_v8_0 (z2' _ (by decide +kernel) (by decide +kernel)) (fun a => by fin_cases a <;> decide) G
theorem whole10 (c : Dev nD) (G : Buf (Elt Ideal) ((c : Thread nD τ).loc main_v8_1)) :
    ((cfg0.win 10).blk t₀).view.read (Elt Ideal) G = G :=
  Memref.read_access_unit_zero (Elt Ideal) main_v8_1 (z2' _ (by decide +kernel) (by decide +kernel)) (fun a => by fin_cases a <;> decide) G

theorem final9 (c : Dev nD) : (dats m 0 c).arrAt 9 cfg0.N = G9 m c := by
  have h := Value.blocks9 m c t₀ (flush0_9 t₀)
  rw [whole9, Value.flushed9, out9_apply] at h
  exact h.trans rfl
theorem final10 (c : Dev nD) : (dats m 0 c).arrAt 10 cfg0.N = G10 m c := by
  have h := Value.blocks10 m c t₀ (flush0_10 t₀)
  rw [whole10, Value.flushed10, out10_apply] at h
  exact h.trans rfl

end Cert.GateUpRefIdeal.Ref

end
-- ==== Proof.UpClaim.lean ====
/- The first kernel and its reference leave the same arrays. -/
module

public import proofs.«01_k».proof.Defs
public import proofs.«01_k».proof.Proof.Up.Value
public import proofs.«01_k».proof.Proof.Up.Max
public import proofs.«01_k».proof.Proof.Ref.Final

@[expose] public section

set_option maxRecDepth 16384

noncomputable section

namespace Cert.GateUpIdeal.Up

open Cert.GateUpIdeal Cert.GateUpIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem host0 (c : Dev nD) : V m c main_v0 = shapeCast S1152x2048 (m ((c : Thread nD τ).loc main_arg0)) shapeCasts_S3x384x2048_S1152x2048 := by entry_read; rfl
theorem host1 (c : Dev nD) : V m c main_v1 = shapeCast S1x1152 (m ((c : Thread nD τ).loc main_arg1)) shapeCasts_S3x384_S1x1152 := by entry_read; rfl
theorem host2 (c : Dev nD) : V m c main_v2 = broadcastInDim S1x11008 ![1] bcast_S11008_S1x11008_1 (m ((c : Thread nD τ).loc main_arg4)) := by entry_read; rfl
theorem host3 (c : Dev nD) : V m c main_v3 = broadcastInDim S1x11008 ![1] bcast_S11008_S1x11008_1 (m ((c : Thread nD τ).loc main_arg7)) := by entry_read; rfl
theorem host4 (c : Dev nD) : V m c main_v4 = broadcastInDim S1x11008 ![1] bcast_S11008_S1x11008_1 (m ((c : Thread nD τ).loc main_arg3)) := by entry_read; rfl
theorem host5 (c : Dev nD) : V m c main_v5 = broadcastInDim S1x11008 ![1] bcast_S11008_S1x11008_1 (m ((c : Thread nD τ).loc main_arg6)) := by entry_read; rfl
theorem host_arg2 (c : Dev nD) : V m c main_arg2 = m ((c : Thread nD τ).loc main_arg2) := by entry_read; rfl
theorem host_arg5 (c : Dev nD) : V m c main_arg5 = m ((c : Thread nD τ).loc main_arg5) := by entry_read; rfl

/-- The kernel's operands, of its arguments, are the reference's. -/
theorem opnds_eq (c : Dev nD) : opnds m c =
    Cert.GateUpRefIdeal.Ref.ofArgs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  unfold opnds
  rw [host0, host1, host2, host3, host4, host5, host_arg2, host_arg5]
  rfl

/-- The scales are those of the product's greatest absolute values. -/
theorem G9_eq (c : Dev nD) : G9 m c = fun i => scaleOf ((opnds m c).top ⟨(i 1).val, (i 1).isLt⟩) := by
  funext i
  obtain ⟨q, r, rfl⟩ : ∃ (q : Fin 1) (r : Fin 1152), i = ix2 q r := ⟨i 0, i 1, eq_ix2 i⟩
  obtain rfl : q = 0 := Subsingleton.elim _ _
  exact pay2_eq (opnds m c) r

variable (m' : (ℓ : Loc Cert.GateUpRefIdeal.nD Cert.GateUpRefIdeal.τ Cert.GateUpRefIdeal.sig) → Buf (Elt Ideal) ℓ)

/-- The two programs' operands agree when their arguments do. -/
theorem ins_eq (c : Dev nD)
    (h : m' ((c.tc : Thread Cert.GateUpRefIdeal.nD Cert.GateUpRefIdeal.τ).loc Cert.GateUpRefIdeal.main_arg0) = m ((c.tc : Thread nD τ).loc main_arg0)
      ∧ m' ((c.tc : Thread Cert.GateUpRefIdeal.nD Cert.GateUpRefIdeal.τ).loc Cert.GateUpRefIdeal.main_arg1) = m ((c.tc : Thread nD τ).loc main_arg1)
      ∧ m' ((c.tc : Thread Cert.GateUpRefIdeal.nD Cert.GateUpRefIdeal.τ).loc Cert.GateUpRefIdeal.main_arg2) = m ((c.tc : Thread nD τ).loc main_arg2)
      ∧ m' ((c.tc : Thread Cert.GateUpRefIdeal.nD Cert.GateUpRefIdeal.τ).loc Cert.GateUpRefIdeal.main_arg3) = m ((c.tc : Thread nD τ).loc main_arg3)
      ∧ m' ((c.tc : Thread Cert.GateUpRefIdeal.nD Cert.GateUpRefIdeal.τ).loc Cert.GateUpRefIdeal.main_arg4) = m ((c.tc : Thread nD τ).loc main_arg4)
      ∧ m' ((c.tc : Thread Cert.GateUpRefIdeal.nD Cert.GateUpRefIdeal.τ).loc Cert.GateUpRefIdeal.main_arg5) = m ((c.tc : Thread nD τ).loc main_arg5)
      ∧ m' ((c.tc : Thread Cert.GateUpRefIdeal.nD Cert.GateUpRefIdeal.τ).loc Cert.GateUpRefIdeal.main_arg6) = m ((c.tc : Thread nD τ).loc main_arg6)
      ∧ m' ((c.tc : Thread Cert.GateUpRefIdeal.nD Cert.GateUpRefIdeal.τ).loc Cert.GateUpRefIdeal.main_arg7) = m ((c.tc : Thread nD τ).loc main_arg7)) :
    Cert.GateUpRefIdeal.Ref.ins m' c = opnds m c := by
  obtain ⟨h0, h1, h2, h3, h4, h5, h6, h7⟩ := h
  rw [opnds_eq]
  unfold Cert.GateUpRefIdeal.Ref.ins
  exact congr (congr (congr (congr (congr (congr (congr (congrArg _ h0) h1) h2) h3) h4) h5) h6) h7

/-- The value claim. -/
theorem algebraic : algebraic_GateUpIdeal_GateUpRefIdeal (hGateUpIdeal := Cert.GateUpIdeal.Gen.facts) (hGateUpRefIdeal := Cert.GateUpRefIdeal.Gen.facts) := by
  intro m g m' g' _ hargs
  refine ⟨G8 m, G9 m, (θ_run _ _ _).mono (fun r h c => ⟨(h c).1.1, (h c).1.2, (h c).2⟩) (run m g), ?_⟩
  refine (θ_run _ _ _).mono (fun r h c => ?_) (Cert.GateUpRefIdeal.Value.run_blocks m' g')
  have e := ins_eq m m' c (hargs c)
  refine ⟨(h c).1.trans ((Cert.GateUpRefIdeal.Ref.final9 m' c).trans ?_), (h c).2.1.trans ((Cert.GateUpRefIdeal.Ref.final10 m' c).trans ?_), (h c).2.2⟩
  · unfold Cert.GateUpRefIdeal.Ref.G9
    rw [e]; rfl
  · unfold Cert.GateUpRefIdeal.Ref.G10
    rw [e]; exact (G9_eq m c).symm

end Cert.GateUpIdeal.Up

end
-- ==== Proof.DnBits.Run.lean ====
/- The second kernel's body runs to the end from any contents of its buffers. -/
module

public import proofs.«01_k».proof.Proof.Gen.Down.Frame
public import proofs.«01_k».proof.Proof.Gen.Down.Skeleton

@[expose] public section

-- membership in a rectangle of production extents (`View.cover_of_tiled`): the elaborator's structural look
-- recurses once per coordinate of the long axes
set_option maxRecDepth 16384

noncomputable section

namespace Cert.Down.Dn

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-- A buffer at known contents is a memref owned at some contents. -/
theorem owns_any {s : Shape} {e : EltTy} (c : Dev nD) (M : Memref sig .tc .vmem s e) (f : BufTy.Contents (Elt F) M.view.ty) :
    (M.view.loc (c : Thread nD τ) ↦[M.view.set]{fullShare} f : sProp 𝕄) ⊢ iprop(∃ d, owns (c : Thread nD τ) M fullShare d) := by
  unfold owns
  iintro H
  iexists (M.view.read (Elt F) f); iexists f
  isplitr; · ipureintro; rfl
  iexact H

set_option maxHeartbeats 1200000 in
/-- At the first point: from any contents of every buffer the body runs to the end and hands every buffer back. -/
theorem body_A (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole)
    (hc0 : cond0_0 i) (hc1 : ¬cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton, k0_part4_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  iapply (owns_any c _ _); iexact H9

set_option maxHeartbeats 1200000 in
/-- The same at a middle point. -/
theorem body_B (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole)
    (hc0 : ¬cond0_0 i) (hc1 : ¬cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton, k0_part4_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  iapply (owns_any c _ _); iexact H9

set_option maxHeartbeats 1200000 in
/-- The same at the last point. -/
theorem body_C (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole)
    (hc0 : ¬cond0_0 i) (hc1 : cond0_1 i) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton, k0_part4_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec (disch := first | sl_exact hc0 | sl_exact hc1)
  sl_step
  iapply Hk
  isplitl [H0]; · iapply (owns_any c _ _); iexact H0
  isplitl [H1]; · iapply (owns_any c _ _); iexact H1
  isplitl [H2]; · iapply (owns_any c _ _); iexact H2
  isplitl [H3]; · iapply (owns_any c _ _); iexact H3
  isplitl [H4]; · iapply (owns_any c _ _); iexact H4
  isplitl [H5]; · iapply (owns_any c _ _); iexact H5
  isplitl [H6]; · iapply (owns_any c _ _); iexact H6
  isplitl [H7]; · iapply (owns_any c _ _); iexact H7
  isplitl [H8]; · iapply (owns_any c _ _); iexact H8
  iapply (owns_any c _ _); iexact H9

/-- From any contents of every buffer the body, at any point, runs to the end and hands every buffer back. -/
theorem body_any (c : Dev nD) (t : Fin cfg0.N) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_down (grid0.coords t) arg1 harg1 arg2 harg2 arg3 harg3 arg4 harg4 arg5 harg5 arg6 harg6 arg7 harg7 arg8 harg8 arg9 harg9 arg10 harg10) K := by
  by_cases hc0 : cond0_0 (grid0.coords t) <;> by_cases hc1 : cond0_1 (grid0.coords t)
  · have h0 := (hcond0_0 t).mp hc0; have h1 := (hcond0_1 t).mp hc1; omega
  · exact body_A c (grid0.coords t) _ _ _ _ _ _ _ _ _ _ _ _ _ _ _ _ _ _ _ _ hc0 hc1 E K
  · exact body_C c (grid0.coords t) _ _ _ _ _ _ _ _ _ _ _ _ _ _ _ _ _ _ _ _ hc0 hc1 E K
  · exact body_B c (grid0.coords t) _ _ _ _ _ _ _ _ _ _ _ _ _ _ _ _ _ _ _ _ hc0 hc1 E K

end Cert.Down.Dn

end
-- ==== Proof.DnBits.Frame.lean ====
/- The frame of the second kernel: it runs to the end and leaves its arguments as they were. -/
module

public import proofs.«01_k».proof.Proof.DnBits.Run
public import Idealize.ShloMosaic.Lib.Claim

@[expose] public section

-- membership in a rectangle of production extents (`View.cover_of_tiled`): the elaborator's structural look
-- recurses once per coordinate of the long axes
set_option maxRecDepth 16384

noncomputable section

namespace Cert.Down.Dn

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from a run whose windows are all forgotten: no argument array is written. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 2 rfl).trans ((hA c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The proof data: the arrays as the region finds them, nothing said of any staging buffer or of the scratch. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The kernel's invariant with the two scratch operands as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

/-- The body table's row at a point is the body at the point's staging memrefs. -/
theorem defs₀_row (t : Fin cfg0.N) :
    defs₀ (F := F) .tc cfg0.body (cfg0.bodyArgs t (cfg0.slots t)) = bodyAt0 t := by
  unfold defs₀; rw [Defs.onTc_tc]

/-- The body at a point, every buffer at anything. -/
theorem sound_body (c : Dev nD) (t : Fin cfg0.N) :
    iprop((dats m 0 c).Φ t.castSucc ∗ (dats m 0 c).owesAt () t.castSucc
      ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X))
      ⊢ wp frame (wpE (defs₀ (F := F)) Variants.none c none) Set.univ (bodyAt0 t) (fun _ =>
    iprop((dats m 0 c).Φ t.succ ∗ (dats m 0 c).owesAt () t.succ
      ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X))) := by
  unfold bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨S0, S1⟩, Hg⟩, Ho, H0, H1, H2, H3, H4, H5, H6, H7⟩
  iapply (body_any c t _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iintro ⟨H0, H1, H2, H3, H4, H5, H6, H7, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, every window forgotten. -/
theorem body_obligation (c : Dev nD) : BodyObligation (dats (F := F) m 0 c) (defs₀ (F := F)) Variants.none () Set.univ (fun _ => true) := fun t => by
  simp only [bigSep_W0, defs₀_row]
  exact triple_restated (sound_body m c t) rfl .rfl fun _ => .rfl

-- the launch theorem's implicit arguments are found by unifying its conclusion with this one
set_option backward.isDefEq.respectTransparency.types false in
/-- The run: it ends, no argument array of the pipeline is written, and every semaphore counter ends at zero. -/
theorem run_main : θ_run defs (onTc (τ := τ) (main (F := F))) (s₀ m ρ) (fun r => (Pipeline.RDat.FramePost (cfgs 0) (fun c => (dats m 0 c).toRForget (fun _ => true)) (V m)) r ∧ r.2.sem = fun _ => 0) :=
  Pipeline.θ_run_frame_track_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget (fun _ => true)) (A_eq m) ((θ_run defs _ _).mono (fun _ h => h.1) (run_main m ρ)))
    ((θ_run defs _ _).mono (fun _ h => h.2) (run_main m ρ))

end Cert.Down.Dn

end
-- ==== Proof.Dn.Setup.lean ====
/- The second kernel's branch conditions, and names for its staging buffers and scratch. -/
module

public import proofs.«01_k».proof.Proof.Gen.DownIdeal.Frame
public import proofs.«01_k».proof.Proof.Gen.DownIdeal.Skeleton

@[expose] public section

-- membership in a rectangle of production extents (`View.cover_of_tiled`): the elaborator's structural look
-- recurses once per coordinate of the long axes
set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Names for the staging memrefs -/

/-- Each window's current staging memref at point `t`, spelled as the pipeline passes it (`bodyAt0`), and its wholeness. -/
abbrev ms0_0 (t : Fin cfg0.N) : Memref sig .tc .vmem S1152x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1152x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x1024 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x2048 .bf16 := win0_7.stage (cfg0.slots t 7)
abbrev hs0_7 (t : Fin cfg0.N) : (ms0_7 t).IsWhole := hstage0_7 ((cfg0.slots t 7).cast nbuf0_7)

end Cert.DownIdeal.Dn

end
-- ==== Proof.Dn.RunA.lean ====
/- The second kernel's body run at the first point (the scratch is filled). -/
module

public import proofs.«01_k».proof.Proof.Dn.Setup

@[expose] public section

-- membership in a rectangle of production extents (`View.cover_of_tiled`): the elaborator's structural look
-- recurses once per coordinate of the long axes
set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1600000 in
/-- The body at the first point (the scratch is filled): from the inputs' blocks (and what the scratch holds) it runs to the end, leaving
    each buffer it writes with a list of stores, last first, that the run finds. -/
noncomputable def kernelRunA (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : cond0_0 i) (hc1 : ¬cond0_1 i)
    (x0 : Vec F S1152x1024 .f32) (x1 : Vec F S1x1152 .f32) (x2 : Vec F S512x2048 .i8) (x3 : Vec F S1x2048 .i8) (x4 : Vec F S1x2048 .f32) (x5 : Vec F S1152x2048 .f32) :
    Σ' (L6 : List (View.Piece (Elt F) S1152x1024 .i8)), Σ' (LS0 : List (View.Piece (Elt F) S1152x2048 .i32)), { LS1 : List (View.Piece (Elt F) S1152x128 .f32) //
      ∀ (xi7 : Vec F S1152x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10) K } := by
  refine ⟨?_, ?_, ?_, fun xi7 E K => ?run⟩
  case run =>
    simp only [cc0_down_eq_skeleton]; unfold cc0_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]; · iexists _; iexact HS0
    iexists _; iexact HS1

end Cert.DownIdeal.Dn

end
-- ==== Proof.Dn.RunB.lean ====
/- The second kernel's body run at a middle point. -/
module

public import proofs.«01_k».proof.Proof.Dn.Setup

@[expose] public section

-- membership in a rectangle of production extents (`View.cover_of_tiled`): the elaborator's structural look
-- recurses once per coordinate of the long axes
set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1600000 in
/-- The body at a middle point: from the inputs' blocks (and what the scratch holds) it runs to the end, leaving
    each buffer it writes with a list of stores, last first, that the run finds. -/
noncomputable def kernelRunB (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : ¬cond0_1 i)
    (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    Σ' (L6 : List (View.Piece (Elt F) S1152x1024 .i8)), { LS0 : List (View.Piece (Elt F) S1152x2048 .i32) //
      ∀ (xi7 : Vec F S1152x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10) K } := by
  refine ⟨?_, ?_, fun xi7 E K => ?run⟩
  case run =>
    simp only [cc0_down_eq_skeleton]; unfold cc0_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]; · iexists _; iexact HS0
    iexists _; isplitr; · ipureintro; exact harg10.read_unread _
    iexact HS1

end Cert.DownIdeal.Dn

end
-- ==== Proof.Dn.RunC.lean ====
/- The second kernel's body run at the last point. -/
module

public import proofs.«01_k».proof.Proof.Dn.Setup

@[expose] public section

-- membership in a rectangle of production extents (`View.cover_of_tiled`): the elaborator's structural look
-- recurses once per coordinate of the long axes
set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1600000 in
/-- The body at the last point: from the inputs' blocks (and what the scratch holds) it runs to the end, leaving
    each buffer it writes with a list of stores, last first, that the run finds. -/
noncomputable def kernelRunC (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : cond0_1 i)
    (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    Σ' (L6 : List (View.Piece (Elt F) S1152x1024 .i8)), Σ' (L7 : List (View.Piece (Elt F) S1152x2048 .bf16)), { LS0 : List (View.Piece (Elt F) S1152x2048 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_down_eq_skeleton]; unfold cc0_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; isplitr; · ipureintro; exact harg10.read_unread _
    iexact HS1

end Cert.DownIdeal.Dn

end
-- ==== Proof.Dn.Tile.lean ====
/- One tile of the second kernel's body as plain functions, and the stores each run leaves as lists of such tiles. -/
module

public import proofs.«01_k».proof.Proof.Dn.RunA
public import proofs.«01_k».proof.Proof.Dn.RunB
public import proofs.«01_k».proof.Proof.Dn.RunC
public import Idealize.ShloMosaic.Lib.Pipeline.ValueKit
public import Idealize.ShloMosaic.Lib.Pipeline.ReadBack

@[expose] public section

-- membership in a rectangle of production extents (`View.cover_of_tiled`): the elaborator's structural look
-- recurses once per coordinate of the long axes
set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile of codes as floats: the quotient by the row's scale rounded and clipped, zero outside the 11008 columns. -/
def qT (lv : IVec S1x1024 1) (x : Vec F S384x1024 .f32) (s : Vec F S384x1 .f32) : FVec F S384x1024 .f32 :=
  select (broadcastTo S384x1024 (shapeCast S1x1024 lv shapeCasts_S1x1024_S1x1024) broadcasts_S1x1024_S384x1024)
    (minimumf (broadcast S384x1024 (Scalar.ofBits .f32 0x42FE0000#32)) (maximumf (broadcast S384x1024 (Scalar.ofBits .f32 0xC2FE0000#32)) (roundeven (divf x (broadcastTo S384x1024 s broadcasts_S384x1_S384x1024)))))
    (broadcast S384x1024 (Scalar.ofBits .f32 0x00000000#32))

/-- The same as bytes. -/
def cT (q : FVec F S384x1024 .f32) : IVec S384x1024 8 := trunci 8 (fptosi 32 q) natLt_8_32

/-- A tile of the accumulator after one more dot product, with columns `o` to `o + 511` of the weights. -/
def aT (o : ℕ) (hs : S1024x2048.Slices ![0, o] S1024x512) (w : FVec F S1024x2048 .bf16) (q : FVec F S384x1024 .f32) (acc : Vec F S384x512 .i32) : IVec S384x512 32 :=
  shapeCast S384x512 (addi acc (fptosi 32 (matmul dot_S384x1024_S1024x512_S384x512_1_0_0_1_n_n none (truncf .bf16 q bitsLt_bf16_f32) (extractStridedSlice S1024x512 ![0, o] w hs) (constant S384x512 .f32 0x00000000#32)))) shapeCasts_S384x512_S384x512

theorem inbX (r : ℕ) (h : r + 384 ≤ 1152) : ∀ a, (![r, 0] : Fin 2 → ℕ) a + S384x1024.size a ≤ S1152x1024.size a := by
  intro a; fin_cases a <;> simp [S384x1024, S1152x1024] <;> omega
theorem inbS (r : ℕ) (h : r + 384 ≤ 1152) : ∀ a, (![r, 0] : Fin 2 → ℕ) a + S384x1.size a ≤ S1152x128.size a := by
  intro a; fin_cases a <;> simp [S384x1, S1152x128] <;> omega
theorem inbA (r o : ℕ) (h : r + 384 ≤ 1152) (h' : o + 512 ≤ 2048) : ∀ a, (![r, o] : Fin 2 → ℕ) a + S384x512.size a ≤ S1152x2048.size a := by
  intro a; fin_cases a <;> simp [S384x512, S1152x2048] <;> omega
theorem inbC : ∀ a, (![0, 0] : Fin 2 → ℕ) a + S1152x1.size a ≤ S1152x128.size a := by
  intro a; fin_cases a <;> simp [S1152x1, S1152x128]

/-- The codes of rows `r` to `r + 383` of the block. -/
def qM (i : grid0.Coords) (x0 : Vec F S1152x1024 .f32) (s : Vec F S1152x128 .f32) (r : ℕ) (hr : r + 384 ≤ 1152) : FVec F S384x1024 .f32 :=
  qT (k0_pay8 i) (View.ld x0 (Rect.unit ![r, 0] ![384, 1024] (inbX r hr))) (View.ld s (Rect.unit ![r, 0] ![384, 1] (inbS r hr)))

/-- The tile of the accumulator at rows `r` to `r + 383`, columns `o` to `o + 511`. -/
def aM (i : grid0.Coords) (x0 : Vec F S1152x1024 .f32) (x2 : Vec F S512x2048 .i8) (x3 : Vec F S1x2048 .i8) (s : Vec F S1152x128 .f32) (acc : Vec F S1152x2048 .i32) (r o : ℕ) (hr : r + 384 ≤ 1152) (ho : o + 512 ≤ 2048) (hs : S1024x2048.Slices ![0, o] S1024x512) : IVec S384x512 32 :=
  aT o hs (k0_pay9 x2 x3) (qM i x0 s r hr) (View.ld acc (Rect.unit ![r, o] ![384, 512] (inbA r o hr ho)))

/-- The stores into the block of codes, last first. -/
def cPieces (i : grid0.Coords) (x0 : Vec F S1152x1024 .f32) (s : Vec F S1152x128 .f32) : List (View.Piece (Elt F) S1152x1024 .i8) :=
  [⟨Rect.unit ![768, 0] ![384, 1024] (by decide), cT (qM i x0 s 768 (by omega))⟩,
   ⟨Rect.unit ![384, 0] ![384, 1024] (by decide), cT (qM i x0 s 384 (by omega))⟩,
   ⟨Rect.unit ![0, 0] ![384, 1024] (by decide), cT (qM i x0 s 0 (by omega))⟩]

/-- The stores into the accumulator, last first. -/
def aPieces (i : grid0.Coords) (x0 : Vec F S1152x1024 .f32) (x2 : Vec F S512x2048 .i8) (x3 : Vec F S1x2048 .i8) (s : Vec F S1152x128 .f32) (acc : Vec F S1152x2048 .i32) : List (View.Piece (Elt F) S1152x2048 .i32) :=
  [⟨Rect.unit ![768, 1536] ![384, 512] (by decide), aM i x0 x2 x3 s acc 768 1536 (by omega) (by omega) slices_S1024x2048_o0_1536_S1024x512⟩,
   ⟨Rect.unit ![768, 1024] ![384, 512] (by decide), aM i x0 x2 x3 s acc 768 1024 (by omega) (by omega) slices_S1024x2048_o0_1024_S1024x512⟩,
   ⟨Rect.unit ![768, 512] ![384, 512] (by decide), aM i x0 x2 x3 s acc 768 512 (by omega) (by omega) slices_S1024x2048_o0_512_S1024x512⟩,
   ⟨Rect.unit ![768, 0] ![384, 512] (by decide), aM i x0 x2 x3 s acc 768 0 (by omega) (by omega) slices_S1024x2048_o0_0_S1024x512⟩,
   ⟨Rect.unit ![384, 1536] ![384, 512] (by decide), aM i x0 x2 x3 s acc 384 1536 (by omega) (by omega) slices_S1024x2048_o0_1536_S1024x512⟩,
   ⟨Rect.unit ![384, 1024] ![384, 512] (by decide), aM i x0 x2 x3 s acc 384 1024 (by omega) (by omega) slices_S1024x2048_o0_1024_S1024x512⟩,
   ⟨Rect.unit ![384, 512] ![384, 512] (by decide), aM i x0 x2 x3 s acc 384 512 (by omega) (by omega) slices_S1024x2048_o0_512_S1024x512⟩,
   ⟨Rect.unit ![384, 0] ![384, 512] (by decide), aM i x0 x2 x3 s acc 384 0 (by omega) (by omega) slices_S1024x2048_o0_0_S1024x512⟩,
   ⟨Rect.unit ![0, 1536] ![384, 512] (by decide), aM i x0 x2 x3 s acc 0 1536 (by omega) (by omega) slices_S1024x2048_o0_1536_S1024x512⟩,
   ⟨Rect.unit ![0, 1024] ![384, 512] (by decide), aM i x0 x2 x3 s acc 0 1024 (by omega) (by omega) slices_S1024x2048_o0_1024_S1024x512⟩,
   ⟨Rect.unit ![0, 512] ![384, 512] (by decide), aM i x0 x2 x3 s acc 0 512 (by omega) (by omega) slices_S1024x2048_o0_512_S1024x512⟩,
   ⟨Rect.unit ![0, 0] ![384, 512] (by decide), aM i x0 x2 x3 s acc 0 0 (by omega) (by omega) slices_S1024x2048_o0_0_S1024x512⟩]

/-- The stores of a middle point are the tiles, over what the scratch held. -/
theorem cB (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : ¬cond0_1 i) (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    (kernelRunB c i arg1 harg1 arg2 harg2 arg3 harg3 arg4 harg4 arg5 harg5 arg6 harg6 arg7 harg7 arg8 harg8 arg9 harg9 arg10 harg10 hc0 hc1 x0 x1 x2 x3 x4 x5 xs0 xs1).1 = cPieces i x0 xs1 := by
  frame_open
  simp (disch := decide) only [↓ View.readCov_skip, ↓ View.readCov_cons_toLoadRect, ↓ View.readCov_fill, View.readAt_eq_ld, Memref.IsWhole.read_unread, View.ld_unit_lit']
  rfl
theorem aB (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : ¬cond0_1 i) (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    (kernelRunB c i arg1 harg1 arg2 harg2 arg3 harg3 arg4 harg4 arg5 harg5 arg6 harg6 arg7 harg7 arg8 harg8 arg9 harg9 arg10 harg10 hc0 hc1 x0 x1 x2 x3 x4 x5 xs0 xs1).2.val = aPieces i x0 x2 x3 xs1 xs0 := by
  frame_open
  simp (disch := decide) only [↓ View.readCov_skip, ↓ View.readCov_cons_toLoadRect, ↓ View.readCov_fill, View.readAt_eq_ld, Memref.IsWhole.read_unread, View.ld_unit_lit']
  rfl
/-- The same at the last point. -/
theorem cC (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : cond0_1 i) (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    (kernelRunC c i arg1 harg1 arg2 harg2 arg3 harg3 arg4 harg4 arg5 harg5 arg6 harg6 arg7 harg7 arg8 harg8 arg9 harg9 arg10 harg10 hc0 hc1 x0 x1 x2 x3 x4 x5 xs0 xs1).1 = cPieces i x0 xs1 := by
  frame_open
  simp (disch := decide) only [↓ View.readCov_skip, ↓ View.readCov_cons_toLoadRect, ↓ View.readCov_fill, View.readAt_eq_ld, Memref.IsWhole.read_unread, View.ld_unit_lit']
  rfl
theorem aC (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : cond0_1 i) (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    (kernelRunC c i arg1 harg1 arg2 harg2 arg3 harg3 arg4 harg4 arg5 harg5 arg6 harg6 arg7 harg7 arg8 harg8 arg9 harg9 arg10 harg10 hc0 hc1 x0 x1 x2 x3 x4 x5 xs0 xs1).2.2.val = aPieces i x0 x2 x3 xs1 xs0 := by
  frame_open
  simp (disch := decide) only [↓ View.readCov_skip, ↓ View.readCov_cons_toLoadRect, ↓ View.readCov_fill, View.readAt_eq_ld, Memref.IsWhole.read_unread, View.ld_unit_lit']
  rfl
/-- The same at the first point, over the scratch just filled. -/
theorem cA (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : cond0_0 i) (hc1 : ¬cond0_1 i) (x0 : Vec F S1152x1024 .f32) (x1 : Vec F S1x1152 .f32) (x2 : Vec F S512x2048 .i8) (x3 : Vec F S1x2048 .i8) (x4 : Vec F S1x2048 .f32) (x5 : Vec F S1152x2048 .f32) :
    (kernelRunA c i arg1 harg1 arg2 harg2 arg3 harg3 arg4 harg4 arg5 harg5 arg6 harg6 arg7 harg7 arg8 harg8 arg9 harg9 arg10 harg10 hc0 hc1 x0 x1 x2 x3 x4 x5).1 = cPieces i x0 (k0_pay6 x1) := by
  frame_open
  simp (disch := decide) only [↓ View.readCov_skip, ↓ View.readCov_cons_toLoadRect, ↓ View.readCov_fill, View.readAt_eq_ld, Memref.IsWhole.read_unread, View.ld_unit_lit']
  rfl
theorem aA (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : cond0_0 i) (hc1 : ¬cond0_1 i) (x0 : Vec F S1152x1024 .f32) (x1 : Vec F S1x1152 .f32) (x2 : Vec F S512x2048 .i8) (x3 : Vec F S1x2048 .i8) (x4 : Vec F S1x2048 .f32) (x5 : Vec F S1152x2048 .f32) :
    (kernelRunA c i arg1 harg1 arg2 harg2 arg3 harg3 arg4 harg4 arg5 harg5 arg6 harg6 arg7 harg7 arg8 harg8 arg9 harg9 arg10 harg10 hc0 hc1 x0 x1 x2 x3 x4 x5).2.1 = aPieces i x0 x2 x3 (k0_pay6 x1) k0_pay7 ++ [⟨Rect.unit ![0, 0] ![1152, 2048] (by decide), k0_pay7⟩] := by
  frame_open
  simp (disch := decide) only [↓ View.readCov_skip, ↓ View.readCov_cons_toLoadRect, ↓ View.readCov_fill, View.readAt_eq_ld, Memref.IsWhole.read_unread, View.ld_unit_lit']
  rfl
theorem sA (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : cond0_0 i) (hc1 : ¬cond0_1 i) (x0 : Vec F S1152x1024 .f32) (x1 : Vec F S1x1152 .f32) (x2 : Vec F S512x2048 .i8) (x3 : Vec F S1x2048 .i8) (x4 : Vec F S1x2048 .f32) (x5 : Vec F S1152x2048 .f32) :
    (kernelRunA c i arg1 harg1 arg2 harg2 arg3 harg3 arg4 harg4 arg5 harg5 arg6 harg6 arg7 harg7 arg8 harg8 arg9 harg9 arg10 harg10 hc0 hc1 x0 x1 x2 x3 x4 x5).2.2.val = [⟨Rect.unit ![0, 0] ![1152, 128] (by decide), k0_pay6 x1⟩] := by
  frame_open
  simp (disch := decide) only [↓ View.readCov_skip, ↓ View.readCov_cons_toLoadRect, ↓ View.readCov_fill, View.readAt_eq_ld, Memref.IsWhole.read_unread, View.ld_unit_lit']
theorem readCov_all (v : View sig .tc .vmem S1152x2048 .i32) (L : List (View.Piece (Elt F) S1152x2048 .i32)) (inb) :
    v.readCov L (Rect.unit ![0, 0] ![1152, 2048] inb).toLoadRect = View.canon L := by
  rw [View.readCov_eq_canon']
  funext j
  refine congrArg (View.canon L) (funext fun a => Fin.ext ?_)
  refine (Rect.idx_unit_val _ _ _ j a).trans ?_
  fin_cases a <;> simp
/-- The last point's result, from the finished accumulator. -/
theorem yC (c : Dev nD) (i : grid0.Coords) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : cond0_1 i) (x0 : Vec F S1152x1024 .f32) (x1 : Vec F S1x1152 .f32) (x2 : Vec F S512x2048 .i8) (x3 : Vec F S1x2048 .i8) (x4 : Vec F S1x2048 .f32) (x5 : Vec F S1152x2048 .f32) (xs0 : Vec F S1152x2048 .i32) (xs1 : Vec F S1152x128 .f32) :
    (kernelRunC c i arg1 harg1 arg2 harg2 arg3 harg3 arg4 harg4 arg5 harg5 arg6 harg6 arg7 harg7 arg8 harg8 arg9 harg9 arg10 harg10 hc0 hc1 x0 x1 x2 x3 x4 x5 xs0 xs1).2.1 = [⟨Rect.unit ![0, 0] ![1152, 2048] (by decide), k0_pay5 x5 (View.canon (aPieces i x0 x2 x3 xs1 xs0)) (View.ld xs1 (Rect.unit ![0, 0] ![1152, 1] inbC)) x4⟩] := by
  rw [← readCov_all arg9.view _ (by decide)]
  frame_open
  simp (disch := decide) only [↓ View.readCov_skip, ↓ View.readCov_cons_toLoadRect, ↓ View.readCov_fill, View.readAt_eq_ld, Memref.IsWhole.read_unread, View.ld_unit_lit']
  rfl

end Cert.DownIdeal.Dn

end
-- ==== Proof.Dn.Clip.lean ====
/- Rounding and clipping to a byte over the reals: the result is an integer between -127 and 127 whatever the
   operand, and the conversions to integers are exact on such integers. -/
module

public import proofs.«01_k».proof.Proof.Ref.Acc

@[expose] public section

set_option maxRecDepth 16384

noncomputable section

namespace Cert.DownIdeal.Dn

open Idealize.ShloMosaic Idealize.ShloMosaic.TcCoe Idealize.ShloMosaic.Tactic
open Cert.GateUpIdeal.Up (ir)

/-- An extended real rounded to the nearest integer and clipped. -/
def clipZ : EReal → ℤ
  | ⊥ => -127
  | ⊤ => 127
  | (r : ℝ) => min 127 (max (-127) (Ideal.roundHalfEven r))

theorem hi_bits : Ideal.ofBits .f32 0x42FE0000#32 = ir 127 := by
  simp [Ideal.ofBits, Ideal.ieee]
  rw [← EReal.coe_mul]; unfold ir; congr 1; norm_num
theorem lo_bits : Ideal.ofBits .f32 0xC2FE0000#32 = ir (-127) := by
  simp [Ideal.ofBits, Ideal.ieee]
  rw [← EReal.coe_mul, ← EReal.coe_neg]; unfold ir; congr 1; norm_num

theorem ir_le {a b : ℤ} : ir a ≤ ir b ↔ a ≤ b := by
  unfold ir; rw [EReal.coe_le_coe_iff]; exact Int.cast_le
theorem ir_max (a b : ℤ) : max (ir a) (ir b) = ir (max a b) := by
  rcases le_total a b with h | h
  · rw [max_eq_right h, max_eq_right (ir_le.2 h)]
  · rw [max_eq_left h, max_eq_left (ir_le.2 h)]
theorem ir_min (a b : ℤ) : min (ir a) (ir b) = ir (min a b) := by
  rcases le_total a b with h | h
  · rw [min_eq_left h, min_eq_left (ir_le.2 h)]
  · rw [min_eq_right h, min_eq_right (ir_le.2 h)]

theorem clip_eq (v : EReal) :
    min (Ideal.ofBits .f32 0x42FE0000#32) (max (Ideal.ofBits .f32 0xC2FE0000#32) (Ideal.liftRound Ideal.roundHalfEven v)) = ir (clipZ v) := by
  rw [hi_bits, lo_bits]
  induction v with
  | bot =>
    show min (ir 127) (max (ir (-127)) ⊥) = ir (-127)
    rw [max_eq_left bot_le, ir_min]; rfl
  | top =>
    show min (ir 127) (max (ir (-127)) ⊤) = ir 127
    rw [max_eq_right le_top, min_eq_left le_top]
  | coe r =>
    show min (ir 127) (max (ir (-127)) (ir (Ideal.roundHalfEven r))) = ir (min 127 (max (-127) (Ideal.roundHalfEven r)))
    rw [ir_max, ir_min]

theorem clipZ_abs (v : EReal) : -127 ≤ clipZ v ∧ clipZ v ≤ 127 := by
  induction v with
  | bot => show -127 ≤ (-127 : ℤ) ∧ (-127 : ℤ) ≤ 127; omega
  | top => show -127 ≤ (127 : ℤ) ∧ (127 : ℤ) ≤ 127; omega
  | coe r => show -127 ≤ min 127 (max (-127) (Ideal.roundHalfEven r)) ∧ min 127 (max (-127) (Ideal.roundHalfEven r)) ≤ 127; omega

/-- An integer in range converts to the word of itself. -/
theorem fptosi_ir (w : ℕ) (z : ℤ) (h1 : -(2 ^ (w - 1) : ℕ) ≤ z) (h2 : z ≤ (2 ^ (w - 1) : ℕ) - 1) : Ideal.fptosi w (ir z) = BitVec.ofInt w z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  omega

theorem trunc_ofInt (z : ℤ) : (BitVec.ofInt 32 z).truncate 8 = BitVec.ofInt 8 z := by
  apply BitVec.eq_of_toNat_eq
  simp [BitVec.toNat_ofInt]
  omega

theorem toInt_ofInt8 (z : ℤ) (h1 : -127 ≤ z) (h2 : z ≤ 127) : (BitVec.ofInt 8 z).toInt = z := by
  rw [BitVec.toInt_ofInt]; apply Int.bmod_eq_of_le <;> omega

/-- A sum over an even number of positions by its even and odd ones. -/
theorem sum_pairs (n : ℕ) (f : ℕ → ℤ) : ∑ k : Fin (2 * n), f k = ∑ k : Fin n, (f (2 * k) + f (2 * k + 1)) := by
  rw [Fin.sum_univ_eq_sum_range (fun k => f k), Fin.sum_univ_eq_sum_range (fun k => f (2 * k) + f (2 * k + 1))]
  induction n with
  | zero => simp
  | succ n ih => rw [show 2 * (n + 1) = 2 * n + 1 + 1 from rfl, Finset.sum_range_succ, Finset.sum_range_succ, Finset.sum_range_succ, ih]; ring

end Cert.DownIdeal.Dn

end
-- ==== Proof.Dn.Point.lean ====
/- One tile of the second kernel's body at an index, over the reals: the codes of a row, and what one more block of
   weights adds to the accumulator. -/
module

public import proofs.«01_k».proof.Proof.Dn.Tile
public import proofs.«01_k».proof.Proof.Dn.Clip
public import Idealize.ShloMosaic.Lib.Pointwise
public import Idealize.ShloMosaic.Lib.BitcastPair

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Cert.GateUpIdeal.Up (nib ir nib_even nib_odd)

/-- The unpacking at an index. -/
theorem unpack_apply (w : Vec Ideal S512x2048 .i8) (k : Fin 1024) (q : Fin 2048) :
    (bitcast S1024x2048 16 (ori (andi (extui 32 w natLt_8_32) (broadcast S512x2048 15#32)) (shli (shrsi (extui 32 w natLt_8_32) (broadcast S512x2048 4#32)) (broadcast S512x2048 16#32))) bitcasts_S512x2048_w32_S1024x2048_w16 (ix2 k q)).toInt
      = (nib (w (ix2 ⟨k / 2, by omega⟩ q)) k : ℕ) := by
  rw [bitcast_32_16]
  have hrow : S1024x2048.row (ix2 k q) = k.val := rfl
  have e : ∀ (hp), bitcasts_S512x2048_w32_S1024x2048_w16.srcIdx (ix2 k q) (S1024x2048.row (ix2 k q) / 2) hp = ix2 ⟨k / 2, by omega⟩ q := by
    intro hp
    funext a; fin_cases a
    · exact Fin.ext (Shape.Bitcasts.srcIdx_row _ _ _ _ _ rfl)
    · exact Fin.ext (Shape.Bitcasts.srcIdx_other _ _ _ _ _ (by decide))
  rw [e, hrow]
  unfold nib
  rcases Nat.mod_two_eq_zero_or_one k.val with h | h
  · rw [h, if_pos rfl]; exact nib_even _
  · rw [h, if_neg (by decide)]; exact nib_odd _

/-- The unpacked weights less their zero point. -/
theorem pay9_apply (w : Vec Ideal S512x2048 .i8) (z : Vec Ideal S1x2048 .i8) (k : Fin 1024) (q : Fin 2048) :
    k0_pay9 w z (ix2 k q) = ir ((nib (w (ix2 ⟨k / 2, by omega⟩ q)) k : ℕ) - (z (ix2 0 q)).toInt) := by
  unfold k0_pay9
  pointwise
  show ((((bitcast S1024x2048 16 _ _ (ix2 k q)).toInt : ℤ) : ℝ) : EReal) - _ = _
  rw [unpack_apply]
  show ((_ : ℝ) : EReal) - ((_ : ℝ) : EReal) = _
  unfold ir; rw [Int.cast_sub]; rfl

theorem pay8_apply (i : grid0.Coords) (n : ℕ) (hn : (i 0).val = n) (hn11 : n < 11) (q : Fin 1024) :
    k0_pay8 i (ix2 0 q) = if n * 1024 + q < 11008 then 1#1 else 0#1 := by
  unfold k0_pay8
  pointwise
  rw [hn]
  have e : IntOp.addi (BitVec.ofNat 32 ↑q) (Scalar.muli (BitVec.ofNat 32 n) 1024#32) = BitVec.ofNat 32 (n * 1024 + q) := by
    show BitVec.ofNat 32 ↑q + BitVec.ofNat 32 n * 1024#32 = _
    rw [show (1024#32 : BitVec 32) = BitVec.ofNat 32 1024 from rfl, ← BitVec.ofNat_mul, ← BitVec.ofNat_add]
    congr 1; omega
  rw [e]
  show BitVec.ofBool ((BitVec.ofNat 32 (n * 1024 + q)).slt 11008#32) = _
  have hq := q.isLt
  have : (BitVec.ofNat 32 (n * 1024 + q.val)).slt 11008#32 = decide (n * 1024 + q.val < 11008) := by
    rw [BitVec.slt_eq_decide]
    congr 1
    rw [BitVec.toInt_eq_toNat_of_lt (by rw [BitVec.toNat_ofNat]; omega), BitVec.toNat_ofNat, Nat.mod_eq_of_lt (by omega)]
    exact propext (by rw [show (11008#32 : BitVec 32).toInt = 11008 from rfl]; omega)
  rw [this]; by_cases h : n * 1024 + q.val < 11008 <;> simp [h]

theorem qT_apply (lv : IVec S1x1024 1) (x : Vec Ideal S384x1024 .f32) (s : Vec Ideal S384x1 .f32) (p : Fin 384) (q : Fin 1024) :
    qT lv x s (ix2 p q) = Scalar.select (lv (ix2 0 q)) (ir (clipZ (Ideal.div (x (ix2 p q)) (s (ix2 p 0))))) (0 : EReal) := by
  rw [← clip_eq]
  unfold qT
  pointwise

theorem cT_apply (q : FVec Ideal S384x1024 .f32) (j : S384x1024.Idx) (z : ℤ) (hq : q j = ir z) (h : -127 ≤ z ∧ z ≤ 127) :
    cT q j = BitVec.ofInt 8 z := by
  show (Ideal.fptosi 32 (q j)).truncate 8 = _
  rw [hq, fptosi_ir 32 z (by norm_num; omega) (by norm_num; omega), trunc_ofInt]

theorem aT_apply (o : ℕ) (ho : o + 512 ≤ 2048) (hs : S1024x2048.Slices ![0, o] S1024x512) (w : FVec Ideal S1024x2048 .bf16) (q : FVec Ideal S384x1024 .f32) (acc : Vec Ideal S384x512 .i32) (p : Fin 384) (c : Fin 512) :
    aT o hs w q acc (ix2 p c) = acc (ix2 p c) + Ideal.fptosi 32 (∑ k : Fin 1024, q (ix2 p k) * w (ix2 k ⟨o + c, by omega⟩)) := by
  unfold aT
  pointwise
  rfl

theorem pay6_apply (x : Vec Ideal S1x1152 .f32) (r : Fin 1152) (l : Fin 128) : k0_pay6 x (ix2 r l) = x (ix2 0 r) := by
  pointwise [k0_pay6]

theorem pay7_apply (r : Fin 1152) (c : Fin 2048) : k0_pay7 (ix2 r c) = 0#32 := by
  pointwise [k0_pay7]

theorem pay5_apply (h : Vec Ideal S1152x2048 .f32) (acc : Vec Ideal S1152x2048 .i32) (s : Vec Ideal S1152x1 .f32) (v : Vec Ideal S1x2048 .f32) (r : Fin 1152) (c : Fin 2048) :
    k0_pay5 h acc s v (ix2 r c) = h (ix2 r c) + ir (acc (ix2 r c)).toInt * s (ix2 r 0) * v (ix2 0 c) := by
  pointwise [k0_pay5]
  rfl

end Cert.DownIdeal.Dn

end
-- ==== Proof.Dn.Cell.lean ====
/- The block of codes and the accumulator a point of the second kernel leaves, in the whole arrays' terms: what lies
   past the 11008 columns of the product has no influence, since its codes are masked to zero. -/
module

public import proofs.«01_k».proof.Proof.Dn.Point
public import proofs.«01_k».proof.Proof.Up.Cell

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Cert.GateUpIdeal.Up (nib ir ld2)
open Cert.GateUpRefIdeal.Ref (ir_sum)

/-- The six operands of the call. -/
structure In where
  m : Vec Ideal S1152x11008 .f32
  sc : Vec Ideal S1x1152 .f32
  w : Vec Ideal S5504x2048 .i8
  z : Vec Ideal S1x2048 .i8
  sw : Vec Ideal S1x2048 .f32
  h1 : Vec Ideal S1152x2048 .f32

/-- The code at row `r`, column `j`: zero past the last column. -/
def In.code (I : In) (r : Fin 1152) (j : ℕ) : ℤ :=
  if h : j < 11008 then clipZ (Ideal.div (I.m (ix2 r ⟨j, h⟩)) (I.sc (ix2 0 r))) else 0

/-- One product of the contraction: a code times a weight less its zero point. -/
def In.term (I : In) (r : Fin 1152) (c : Fin 2048) (j : ℕ) : ℤ :=
  if h : j < 11008 then I.code r j * ((nib (I.w (ix2 ⟨j / 2, by omega⟩ c)) j : ℕ) - (I.z (ix2 0 c)).toInt) else 0

/-- The contraction over the first `n` blocks. -/
def In.tot (I : In) (n : ℕ) (r : Fin 1152) (c : Fin 2048) : ℤ := ∑ j ∈ Finset.range (n * 1024), I.term r c j

/-- Block `n` of the codes. -/
def In.cblk (I : In) (n : ℕ) : Vec Ideal S1152x1024 .i8 := fun y => BitVec.ofInt 8 (I.code ⟨(y 0).val, (y 0).isLt⟩ (n * 1024 + (y 1).val))

/-- The accumulator after `n` blocks. -/
def In.ACC (I : In) (n : ℕ) : Vec Ideal S1152x2048 .i32 := fun y => BitVec.ofInt 32 (I.tot n ⟨(y 0).val, (y 0).isLt⟩ ⟨(y 1).val, (y 1).isLt⟩)

/-- The result. -/
def In.Y (I : In) (r : Fin 1152) (c : Fin 2048) : EReal :=
  I.h1 (ix2 r c) + ir (BitVec.ofInt 32 (I.tot 11 r c)).toInt * I.sc (ix2 0 r) * I.sw (ix2 0 c)

theorem In.code_abs (I : In) (r : Fin 1152) (j : ℕ) : -127 ≤ I.code r j ∧ I.code r j ≤ 127 := by
  unfold In.code; split_ifs
  · exact clipZ_abs _
  · omega

theorem nib_le (b : BitVec 8) (k : ℕ) : nib b k ≤ 15 := by
  have := b.isLt
  unfold nib; split_ifs <;> omega

theorem In.term_abs (I : In) (r : Fin 1152) (c : Fin 2048) (j : ℕ) : |I.term r c j| ≤ 127 * 143 := by
  unfold In.term; split_ifs with h
  · rw [abs_mul]
    have h1 := I.code_abs r j
    have h2 := nib_le (I.w (ix2 ⟨j / 2, by omega⟩ c)) j
    have h3 := natAbs_toInt_i8_le (I.z (ix2 0 c))
    refine mul_le_mul ?_ ?_ (abs_nonneg _) (by norm_num) <;> rw [abs_le] <;> omega
  · simp

theorem In.tot_succ (I : In) (n : ℕ) (r : Fin 1152) (c : Fin 2048) :
    I.tot (n + 1) r c = I.tot n r c + ∑ k : Fin 1024, I.term r c (n * 1024 + k) := by
  unfold In.tot
  rw [show (n + 1) * 1024 = n * 1024 + 1024 by omega, Finset.sum_range_add, Fin.sum_univ_eq_sum_range (fun k => I.term r c (n * 1024 + k))]

/-- One block's sum converts to the word of itself. -/
theorem In.part_word (I : In) (n : ℕ) (r : Fin 1152) (c : Fin 2048) :
    Ideal.fptosi 32 (∑ k : Fin 1024, ir (I.term r c (n * 1024 + k))) = BitVec.ofInt 32 (∑ k : Fin 1024, I.term r c (n * 1024 + k)) := by
  have hb : |∑ k : Fin 1024, I.term r c (n * 1024 + k)| ≤ 1024 * (127 * 143) :=
    (Finset.abs_sum_le_sum_abs _ _).trans ((Finset.sum_le_card_nsmul Finset.univ _ (127 * 143) fun k _ => I.term_abs r c _).trans (by simp))
  have := abs_le.1 hb
  rw [← ir_sum, fptosi_ir] <;> norm_num <;> omega

/-- Inside the columns, the two fetched blocks at point `n` hold the arrays'. -/
structure In.Agree (I : In) (n : ℕ) (x0 : Vec Ideal S1152x1024 .f32) (x2 : Vec Ideal S512x2048 .i8) : Prop where
  h0 : ∀ (r : Fin 1152) (q : Fin 1024) (h : n * 1024 + q.val < 11008), x0 (ix2 r q) = I.m (ix2 r ⟨_, h⟩)
  h2 : ∀ (k : Fin 512) (c : Fin 2048) (h : n * 512 + k.val < 5504), x2 (ix2 k c) = I.w (ix2 ⟨_, h⟩ c)

variable (I : In) (i : grid0.Coords) (n : ℕ) (hn : (i 0).val = n) (hn11 : n < 11)
  (x0 : Vec Ideal S1152x1024 .f32) (x2 : Vec Ideal S512x2048 .i8) (hA : I.Agree n x0 x2)

include hn hn11 hA in
/-- A tile of codes, at an index. -/
theorem qM_apply (r : ℕ) (hr : r + 384 ≤ 1152) (p : Fin 384) (q : Fin 1024) :
    qM i x0 (k0_pay6 (F := Ideal) I.sc) r hr (ix2 p q) = ir (I.code ⟨r + p, by omega⟩ (n * 1024 + q)) := by
  unfold qM
  rw [qT_apply, pay8_apply i n hn hn11 q]
  unfold In.code
  split_ifs with h
  · have es : (View.ld (Val := Elt Ideal) (S := S1152x128) (e' := .f32) (k0_pay6 (F := Ideal) I.sc) (Rect.unit ![r, 0] ![384, 1] (inbS r hr))) (ix2 p 0) = I.sc (ix2 0 ⟨r + p, by omega⟩) := by
      rw [show (View.ld (Val := Elt Ideal) (S := S1152x128) (e' := .f32) (k0_pay6 (F := Ideal) I.sc) (Rect.unit ![r, 0] ![384, 1] (inbS r hr))) (ix2 p 0) = k0_pay6 (F := Ideal) I.sc (ix2 ⟨r + p, by omega⟩ ⟨0, by omega⟩) from ld2 (e := .f32) _ _ _ _ _ _ _ _]
      exact pay6_apply _ _ _
    have e0 : (View.ld (Val := Elt Ideal) (S := S1152x1024) (e' := .f32) x0 (Rect.unit ![r, 0] ![384, 1024] (inbX r hr))) (ix2 p q) = I.m (ix2 ⟨r + p, by omega⟩ ⟨n * 1024 + q, h⟩) := by
      rw [show (View.ld (Val := Elt Ideal) (S := S1152x1024) (e' := .f32) x0 (Rect.unit ![r, 0] ![384, 1024] (inbX r hr))) (ix2 p q) = x0 (ix2 ⟨r + p, by omega⟩ ⟨0 + q, by omega⟩) from ld2 (e := .f32) _ _ _ _ _ _ _ _]
      simp only [Nat.zero_add]
      exact hA.h0 _ q h
    rw [es, e0]; rfl
  · show (0 : EReal) = ir 0
    simp [ir]

include hn hn11 hA in
/-- A tile of codes as bytes, the index and the result's place given by coordinates. -/
theorem cT_at (r : ℕ) (hr : r + 384 ≤ 1152) (x : S384x1024.Idx) (R : Fin 1152) (Q : ℕ) (hR : R.val = r + (x 0).val) (hQ : Q = (x 1).val) :
    cT (qM i x0 (k0_pay6 (F := Ideal) I.sc) r hr) x = BitVec.ofInt 8 (I.code R (n * 1024 + Q)) := by
  subst hQ
  obtain ⟨p, q, rfl⟩ : ∃ (p : Fin 384) (q : Fin 1024), x = ix2 p q := ⟨x 0, x 1, eq_ix2 x⟩
  have hR' : R = ⟨r + p, by omega⟩ := Fin.ext hR
  rw [hR']
  exact cT_apply _ _ _ (qM_apply I i n hn hn11 x0 x2 hA r hr p q) (I.code_abs _ _)

include hn hn11 hA in
/-- The stores into the block of codes leave the block. -/
theorem canon_c : View.canon (cPieces i x0 (k0_pay6 (F := Ideal) I.sc)) = I.cblk n := by
  funext y
  unfold cPieces
  canon_tiles x h
  all_goals
    refine cT_at I i n hn hn11 x0 x2 hA _ _ _ _ _ ?_ ?_ <;> first | assumption | (rw [Nat.zero_add]; assumption)

include hn hn11 hA in
/-- A tile of the accumulator, the index and the result's place given by coordinates. -/
theorem aM_at (r o : ℕ) (hr : r + 384 ≤ 1152) (ho : o + 512 ≤ 2048) (hs : S1024x2048.Slices ![0, o] S1024x512) (x : S384x512.Idx) (R : Fin 1152) (C : Fin 2048) (hR : R.val = r + (x 0).val) (hC : C.val = o + (x 1).val) :
    aM i x0 x2 I.z (k0_pay6 (F := Ideal) I.sc) (I.ACC n) r o hr ho hs x = BitVec.ofInt 32 (I.tot (n + 1) R C) := by
  obtain ⟨p, q, rfl⟩ : ∃ (p : Fin 384) (q : Fin 512), x = ix2 p q := ⟨x 0, x 1, eq_ix2 x⟩
  have hR' : R = ⟨r + p, by omega⟩ := Fin.ext hR
  have hC' : C = ⟨o + q, by omega⟩ := Fin.ext hC
  rw [hR', hC']
  unfold aM
  rw [aT_apply o ho hs]
  rw [show (View.ld (Val := Elt Ideal) (S := S1152x2048) (e' := .i32) (I.ACC n) (Rect.unit ![r, o] ![384, 512] (inbA r o hr ho))) (ix2 p q) = I.ACC n (ix2 ⟨r + p, by omega⟩ ⟨o + q, by omega⟩) from ld2 (e := .i32) _ _ _ _ _ _ _ _]
  have et : ∀ k : Fin 1024, qM i x0 (k0_pay6 (F := Ideal) I.sc) r hr (ix2 p k) * k0_pay9 (F := Ideal) x2 I.z (ix2 k ⟨o + q, by omega⟩)
      = ir (I.term ⟨r + p, by omega⟩ ⟨o + q, by omega⟩ (n * 1024 + k)) := by
    intro k
    rw [qM_apply I i n hn hn11 x0 x2 hA, pay9_apply]
    unfold In.term
    split_ifs with h
    · have hw := hA.h2 ⟨k / 2, by omega⟩ ⟨o + q, by omega⟩ (by show n * 512 + k.val / 2 < 5504; omega)
      have e1 : (⟨n * 512 + k.val / 2, by omega⟩ : Fin 5504) = ⟨(n * 1024 + k.val) / 2, by omega⟩ := Fin.ext (by show n * 512 + k.val / 2 = (n * 1024 + k.val) / 2; omega)
      have e2 : ∀ b, nib b k.val = nib b (n * 1024 + k.val) := fun b => by
        unfold nib; rw [show (n * 1024 + k.val) % 2 = k.val % 2 by omega]
      rw [hw, e2]
      show _ * _ = _
      rw [show (ix2 (⟨n * 512 + k.val / 2, by omega⟩ : Fin 5504) (⟨o + q, by omega⟩ : Fin 2048) : S5504x2048.Idx) = ix2 ⟨(n * 1024 + k.val) / 2, by omega⟩ ⟨o + q, by omega⟩ from congrArg (fun a => ix2 a _) e1]
      unfold ir
      rw [← EReal.coe_mul, ← Int.cast_mul]
    · rw [show I.code ⟨r + p, by omega⟩ (n * 1024 + k) = 0 from dif_neg h]
      unfold ir
      rw [← EReal.coe_mul, ← Int.cast_mul, zero_mul]
  simp only [et]
  rw [In.part_word, In.tot_succ]
  show BitVec.ofInt 32 _ + BitVec.ofInt 32 _ = _
  rw [← BitVec.ofInt_add]; rfl

include hn hn11 hA in
/-- The stores into the accumulator leave the next one. -/
theorem canon_a (L' : List (View.Piece (Elt Ideal) S1152x2048 .i32)) : View.canon (aPieces i x0 x2 I.z (k0_pay6 (F := Ideal) I.sc) (I.ACC n) ++ L') = I.ACC (n + 1) := by
  funext y
  unfold aPieces
  refine View.canon_append_of_piecesOf (I.ACC (n + 1)) L' [_, _, _, _, _, _, _, _, _, _, _, _] ⟨?_, ?_, ?_, ?_, ?_, ?_, ?_, ?_, ?_, ?_, ?_, ?_, trivial⟩ y ?_
  all_goals first
    | exact View.cover_of_tiled _ ![384, 512] rfl y
    | (intro x
       refine aM_at I i n hn hn11 x0 x2 hA _ _ (by omega) (by omega) _ x _ _ ((Rect.emb_apply _ x 0).trans ?_) ((Rect.emb_apply _ x 1).trans ?_)
       · show _ + 1 * (x 0).val = _; rw [Nat.one_mul]; rfl
       · show _ + 1 * (x 1).val = _; rw [Nat.one_mul]; rfl)

/-- Before the first point the accumulator is zero. -/
theorem pay7_eq : k0_pay7 = I.ACC 0 := by
  funext y
  obtain ⟨p, q, rfl⟩ : ∃ (p : Fin 1152) (q : Fin 2048), y = ix2 p q := ⟨y 0, y 1, eq_ix2 y⟩
  exact (pay7_apply p q).trans (by show _ = BitVec.ofInt 32 (I.tot 0 p q); unfold In.tot; simp)

/-- The last point's result. -/
theorem pay5_eq : k0_pay5 (F := Ideal) I.h1 (I.ACC 11) (View.ld (Val := Elt Ideal) (S := S1152x128) (e' := .f32) (k0_pay6 (F := Ideal) I.sc) (Rect.unit ![0, 0] ![1152, 1] inbC)) I.sw
    = fun y => I.Y ⟨(y 0).val, (y 0).isLt⟩ ⟨(y 1).val, (y 1).isLt⟩ := by
  funext y
  obtain ⟨r, c, rfl⟩ : ∃ (r : Fin 1152) (c : Fin 2048), y = ix2 r c := ⟨y 0, y 1, eq_ix2 y⟩
  rw [pay5_apply]
  have es : (View.ld (Val := Elt Ideal) (S := S1152x128) (e' := .f32) (k0_pay6 (F := Ideal) I.sc) (Rect.unit ![0, 0] ![1152, 1] inbC)) (ix2 r 0) = I.sc (ix2 0 r) := by
    rw [show (View.ld (Val := Elt Ideal) (S := S1152x128) (e' := .f32) (k0_pay6 (F := Ideal) I.sc) (Rect.unit ![0, 0] ![1152, 1] inbC)) (ix2 r 0) = k0_pay6 (F := Ideal) I.sc (ix2 ⟨0 + r, by omega⟩ ⟨0, by omega⟩) from ld2 (e := .f32) _ _ _ _ _ _ _ _]
    simp only [Nat.zero_add]
    exact pay6_apply _ _ _
  rw [es]; rfl

end Cert.DownIdeal.Dn

end
-- ==== Proof.Dn.Step.lean ====
/- What a point of the second kernel leaves, over the reals: its block of codes, the accumulator after it, and at the
   last point the result; the first point also fills the row of scales. -/
module

public import proofs.«01_k».proof.Proof.Dn.Cell

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer covered by stores, owned at what they leave. -/
theorem owns_writes {s : Shape} {e : EltTy} (c : Dev nD) (a : Memref sig .tc .vmem s e) (L L' : List (View.Piece (Elt Ideal) s e)) (X : Vec Ideal s e)
    (hL : L = L') (hc : ∀ y, ∃ p ∈ L', y ∈ p.1.set) (hX : View.canon L' = X) :
    iprop(∃ f, a.view.loc (c : Thread nD τ) ↦[a.view.set]{fullShare} a.view.writes (Elt Ideal) f L) ⊢ (owns (c : Thread nD τ) a fullShare X : sProp 𝕄) := by
  subst hL
  iintro ⟨%f, H⟩
  unfold owns
  iexists _; isplitr
  swap; · iexact H
  ipureintro; exact (View.read_writes_eq_canon _ _ _ hc).trans hX

variable (I : In) (n : ℕ) (hn11 : n < 11)
  (x0 : Vec Ideal S1152x1024 .f32) (x2 : Vec Ideal S512x2048 .i8) (hA : I.Agree n x0 x2)

theorem cover_c (i : grid0.Coords) (s : Vec Ideal S1152x128 .f32) (y : S1152x1024.Idx) : ∃ p ∈ cPieces i x0 s, y ∈ p.1.set := by
  unfold cPieces; exact View.cover_of_tiled _ ![384, 1024] rfl y

theorem cover_a (i : grid0.Coords) (x3 : Vec Ideal S1x2048 .i8) (s : Vec Ideal S1152x128 .f32) (acc : Vec Ideal S1152x2048 .i32) (L' : List (View.Piece (Elt Ideal) S1152x2048 .i32)) (y : S1152x2048.Idx) : ∃ p ∈ aPieces i x0 x2 x3 s acc ++ L', y ∈ p.1.set := by
  obtain ⟨p, hp, h⟩ := View.cover_of_tiled (aPieces i x0 x2 x3 s acc) ![384, 512] rfl y
  exact ⟨p, List.mem_append_left _ hp, h⟩

/-- A whole store leaves its payload. -/
theorem canon_whole2 {m n : ℕ} {e : EltTy} (X : Vec Ideal ⟨2, ![m, n]⟩ e) (inb : ∀ a, (![0, 0] : Fin 2 → ℕ) a + (![m, n] : Fin 2 → ℕ) a ≤ (![m, n] : Fin 2 → ℕ) a) :
    View.canon (Val := Elt Ideal) (s := ⟨2, ![m, n]⟩) [⟨Rect.unit ![0, 0] ![m, n] inb, X⟩] = X :=
  View.canon_unit_zero (funext fun a => by fin_cases a <;> rfl) inb X

theorem cover_whole2 {m n : ℕ} {e : EltTy} (X : Vec Ideal ⟨2, ![m, n]⟩ e) (inb : ∀ a, (![0, 0] : Fin 2 → ℕ) a + (![m, n] : Fin 2 → ℕ) a ≤ (![m, n] : Fin 2 → ℕ) a) (y : (⟨2, ![m, n]⟩ : Shape).Idx) :
    ∃ p ∈ ([⟨Rect.unit ![0, 0] ![m, n] inb, X⟩] : List (View.Piece (Elt Ideal) ⟨2, ![m, n]⟩ e)), y ∈ p.1.set :=
  ⟨⟨Rect.unit ![0, 0] ![m, n] inb, X⟩, List.mem_singleton_self _, (Rect.mem_set_unit (inb := inb)).mpr (Fin.forall_fin_two.mpr ⟨⟨Nat.zero_le _, by
    have h : (y 0).val < m := (y 0).isLt
    change (y 0).val < 0 + m; omega⟩, ⟨Nat.zero_le _, by
    have h : (y 1).val < n := (y 1).isLt
    change (y 1).val < 0 + n; omega⟩⟩)⟩

set_option maxHeartbeats 4000000 in
include hn11 hA in
/-- The first point: the scratch is filled, the first block of codes stored. -/
theorem stepA (c : Dev nD) (i : grid0.Coords) (hn : (i 0).val = n) (hz : n = 0) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : cond0_0 i) (hc1 : ¬cond0_1 i) (xi7 : Vec Ideal S1152x2048 .bf16) (E : Set ℕ) (K : PUnit → sProp 𝕄) :
    iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ owns (c : Thread nD τ) arg7 fullShare (I.cblk n) ∗ owns (c : Thread nD τ) arg8 fullShare xi7 ∗ owns (c : Thread nD τ) arg9 fullShare (I.ACC (n + 1)) ∗ owns (c : Thread nD τ) arg10 fullShare (k0_pay6 I.sc)) -∗ K ⟨⟩))
      ⊢ wp frame (wpE (defs₀ (F := Ideal)) Variants.none c none) E (cc0_down i arg1 harg1 arg2 harg2 arg3 harg3 arg4 harg4 arg5 harg5 arg6 harg6 arg7 harg7 arg8 harg8 arg9 harg9 arg10 harg10) K := by
  have ec := cA c i arg1 harg1 arg2 harg2 arg3 harg3 arg4 harg4 arg5 harg5 arg6 harg6 arg7 harg7 arg8 harg8 arg9 harg9 arg10 harg10 hc0 hc1 x0 I.sc x2 I.z I.sw I.h1
  have ea := aA c i arg1 harg1 arg2 harg2 arg3 harg3 arg4 harg4 arg5 harg5 arg6 harg6 arg7 harg7 arg8 harg8 arg9 harg9 arg10 harg10 hc0 hc1 x0 I.sc x2 I.z I.sw I.h1
  have es := sA c i arg1 harg1 arg2 harg2 arg3 harg3 arg4 harg4 arg5 harg5 arg6 harg6 arg7 harg7 arg8 harg8 arg9 harg9 arg10 harg10 hc0 hc1 x0 I.sc x2 I.z I.sw I.h1
  subst hz
  iintro ⟨H0, H1, H2, H3, H4, H5, H6, H7, S0, S1, Hk⟩
  iapply ((kernelRunA c i arg1 harg1 arg2 harg2 arg3 harg3 arg4 harg4 arg5 harg5 arg6 harg6 arg7 harg7 arg8 harg8 arg9 harg9 arg10 harg10 hc0 hc1 x0 I.sc x2 I.z I.sw I.h1).2.2.property xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iintro ⟨H0, H1, H2, H3, H4, H5, H6, H7, S0, S1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_writes c arg7 _ _ _ ec (cover_c x0 i _) (canon_c I i _ hn hn11 x0 x2 hA)); iexact H6
  isplitl [H7]; · iexact H7
  rw [pay7_eq I] at ea
  isplitl [S0]; · iapply (owns_writes c arg9 _ _ _ ea (cover_a x0 x2 i _ _ _ _) (canon_a I i _ hn hn11 x0 x2 hA _)); iexact S0
  iapply (owns_writes c arg10 _ _ _ es (cover_whole2 _ _) (canon_whole2 _ _)); iexact S1

set_option maxHeartbeats 4000000 in
include hn11 hA in
/-- A middle point. -/
theorem stepB (c : Dev nD) (i : grid0.Coords) (hn : (i 0).val = n) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : ¬cond0_1 i) (xi7 : Vec Ideal S1152x2048 .bf16) (E : Set ℕ) (K : PUnit → sProp 𝕄) :
    iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ (∃ d, owns (c : Thread nD τ) arg7 fullShare d) ∗ owns (c : Thread nD τ) arg8 fullShare xi7 ∗ owns (c : Thread nD τ) arg9 fullShare (I.ACC n) ∗ owns (c : Thread nD τ) arg10 fullShare (k0_pay6 I.sc)
        ∗ (iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ owns (c : Thread nD τ) arg7 fullShare (I.cblk n) ∗ owns (c : Thread nD τ) arg8 fullShare xi7 ∗ owns (c : Thread nD τ) arg9 fullShare (I.ACC (n + 1)) ∗ owns (c : Thread nD τ) arg10 fullShare (k0_pay6 I.sc)) -∗ K ⟨⟩))
      ⊢ wp frame (wpE (defs₀ (F := Ideal)) Variants.none c none) E (cc0_down i arg1 harg1 arg2 harg2 arg3 harg3 arg4 harg4 arg5 harg5 arg6 harg6 arg7 harg7 arg8 harg8 arg9 harg9 arg10 harg10) K := by
  have ec := cB c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)
  have ea := aB c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)
  iintro ⟨H0, H1, H2, H3, H4, H5, H6, H7, S0, S1, Hk⟩
  iapply ((kernelRunB c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)).2.property xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iintro ⟨H0, H1, H2, H3, H4, H5, H6, H7, S0, S1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_writes c arg7 _ _ _ ec (cover_c x0 i _) (canon_c I i _ hn hn11 x0 x2 hA)); iexact H6
  isplitl [H7]; · iexact H7
  isplitl [S0]; · iapply (owns_writes c arg9 _ _ _ (ea.trans (List.append_nil _).symm) (cover_a x0 x2 i _ _ _ _) (canon_a I i _ hn hn11 x0 x2 hA _)); iexact S0
  iexact S1

set_option maxHeartbeats 4000000 in
include hn11 hA in
/-- The last point: the result is stored too. -/
theorem stepC (c : Dev nD) (i : grid0.Coords) (hn : (i 0).val = n) (hz : n = 10) (arg1 : Memref sig .tc .vmem S1152x1024 .f32) (harg1 : arg1.IsWhole) (arg2 : Memref sig .tc .vmem S1x1152 .f32) (harg2 : arg2.IsWhole) (arg3 : Memref sig .tc .vmem S512x2048 .i8) (harg3 : arg3.IsWhole) (arg4 : Memref sig .tc .vmem S1x2048 .i8) (harg4 : arg4.IsWhole) (arg5 : Memref sig .tc .vmem S1x2048 .f32) (harg5 : arg5.IsWhole) (arg6 : Memref sig .tc .vmem S1152x2048 .f32) (harg6 : arg6.IsWhole) (arg7 : Memref sig .tc .vmem S1152x1024 .i8) (harg7 : arg7.IsWhole) (arg8 : Memref sig .tc .vmem S1152x2048 .bf16) (harg8 : arg8.IsWhole) (arg9 : Memref sig .tc .vmem S1152x2048 .i32) (harg9 : arg9.IsWhole) (arg10 : Memref sig .tc .vmem S1152x128 .f32) (harg10 : arg10.IsWhole) (hc0 : ¬cond0_0 i) (hc1 : cond0_1 i) (E : Set ℕ) (K : PUnit → sProp 𝕄) :
    iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ (∃ d, owns (c : Thread nD τ) arg7 fullShare d) ∗ (∃ d, owns (c : Thread nD τ) arg8 fullShare d) ∗ owns (c : Thread nD τ) arg9 fullShare (I.ACC n) ∗ owns (c : Thread nD τ) arg10 fullShare (k0_pay6 I.sc)
        ∗ (iprop(owns (c : Thread nD τ) arg1 fullShare x0 ∗ owns (c : Thread nD τ) arg2 fullShare I.sc ∗ owns (c : Thread nD τ) arg3 fullShare x2 ∗ owns (c : Thread nD τ) arg4 fullShare I.z ∗ owns (c : Thread nD τ) arg5 fullShare I.sw ∗ owns (c : Thread nD τ) arg6 fullShare I.h1 ∗ owns (c : Thread nD τ) arg7 fullShare (I.cblk n) ∗ owns (c : Thread nD τ) arg8 fullShare (fun y => I.Y ⟨(y 0).val, (y 0).isLt⟩ ⟨(y 1).val, (y 1).isLt⟩) ∗ owns (c : Thread nD τ) arg9 fullShare (I.ACC (n + 1)) ∗ owns (c : Thread nD τ) arg10 fullShare (k0_pay6 I.sc)) -∗ K ⟨⟩))
      ⊢ wp frame (wpE (defs₀ (F := Ideal)) Variants.none c none) E (cc0_down i arg1 harg1 arg2 harg2 arg3 harg3 arg4 harg4 arg5 harg5 arg6 harg6 arg7 harg7 arg8 harg8 arg9 harg9 arg10 harg10) K := by
  have ec := cC c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)
  have ea := aC c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)
  have ey := yC c i arg1 harg1 arg2 harg2 arg3 harg3 arg4 harg4 arg5 harg5 arg6 harg6 arg7 harg7 arg8 harg8 arg9 harg9 arg10 harg10 hc0 hc1 x0 I.sc x2 I.z I.sw I.h1 (I.ACC n) (k0_pay6 I.sc)
  rw [show aPieces i x0 x2 I.z (k0_pay6 I.sc) (I.ACC n) = aPieces i x0 x2 I.z (k0_pay6 I.sc) (I.ACC n) ++ [] from (List.append_nil _).symm, canon_a I i n hn hn11 x0 x2 hA []] at ey
  subst hz
  rw [pay5_eq] at ey
  iintro ⟨H0, H1, H2, H3, H4, H5, H6, H7, S0, S1, Hk⟩
  iapply ((kernelRunC c i arg1 harg1 arg2 harg2 arg3 harg3 arg4 harg4 arg5 harg5 arg6 harg6 arg7 harg7 arg8 harg8 arg9 harg9 arg10 harg10 hc0 hc1 x0 I.sc x2 I.z I.sw I.h1 (I.ACC 10) (k0_pay6 I.sc)).2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iintro ⟨H0, H1, H2, H3, H4, H5, H6, H7, S0, S1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_writes c arg7 _ _ _ ec (cover_c x0 i _) (canon_c I i _ hn hn11 x0 x2 hA)); iexact H6
  isplitl [H7]; · iapply (owns_writes c arg8 _ _ _ ey (cover_whole2 _ _) (canon_whole2 _ _)); iexact H7
  isplitl [S0]; · iapply (owns_writes c arg9 _ _ _ (ea.trans (List.append_nil _).symm) (cover_a x0 x2 i _ _ _ _) (canon_a I i _ hn hn11 x0 x2 hA _)); iexact S0
  iexact S1

end Cert.DownIdeal.Dn

end
-- ==== Proof.Dn.Blocks.lean ====
/- The windows of the second kernel: what each fetched block holds, in the whole arrays' terms. -/
module

public import proofs.«01_k».proof.Proof.Dn.Step

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.ShloMosaic.Pipeline (Dat Cfg Window)

/-- A block of columns: which ones it takes and how many lie inside the array. -/
abbrev ColFacts (w : Window sig grid0) (a0 a1 : Fin w.shape.rank) (rows : ℕ) (t : Fin grid0.N) : Prop :=
  w.index t a0 = 0 ∧ w.index t a1 = t.val ∧ w.xsize (grid0.coords t) a0 = rows ∧ w.xsize (grid0.coords t) a1 = min 1024 (11008 - t.val * 1024)

theorem facts0 : ∀ t : Fin grid0.N, ColFacts win0_0 (0 : Fin 2) (1 : Fin 2) 1152 t := by decide +kernel
theorem facts6 : ∀ t : Fin grid0.N, ColFacts win0_6 (0 : Fin 2) (1 : Fin 2) 1152 t := by decide +kernel
theorem facts2 : ∀ t : Fin grid0.N, win0_2.index t (0 : Fin 2) = t.val ∧ win0_2.index t (1 : Fin 2) = 0
    ∧ win0_2.xsize (grid0.coords t) (0 : Fin 2) = min 512 (5504 - t.val * 512) ∧ win0_2.xsize (grid0.coords t) (1 : Fin 2) = 2048 := by decide +kernel
theorem facts1 : ∀ t : Fin grid0.N, win0_1.index t (0 : Fin 2) = 0 ∧ win0_1.index t (1 : Fin 2) = 0 := by decide +kernel
theorem facts3 : ∀ t : Fin grid0.N, win0_3.index t (0 : Fin 2) = 0 ∧ win0_3.index t (1 : Fin 2) = 0 := by decide +kernel
theorem facts4 : ∀ t : Fin grid0.N, win0_4.index t (0 : Fin 2) = 0 ∧ win0_4.index t (1 : Fin 2) = 0 := by decide +kernel
theorem facts5 : ∀ t : Fin grid0.N, win0_5.index t (0 : Fin 2) = 0 ∧ win0_5.index t (1 : Fin 2) = 0 := by decide +kernel
theorem facts7 : ∀ t : Fin grid0.N, win0_7.index t (0 : Fin 2) = 0 ∧ win0_7.index t (1 : Fin 2) = 0 := by decide +kernel

variable (m : (ℓ : Loc nD τ sig) → Buf (Elt Ideal) ℓ) (c : Dev nD) (t : Fin cfg0.N)

/-- The call's operands as the kernel finds them. -/
def opnds : In :=
  ⟨V m c main_arg0, V m c main_arg1, V m c main_arg3, V m c main_v0, V m c main_v1, V m c main_v2⟩

/-- Inside the array, a fetched block holds the array's entries. -/
theorem fill0_at (d) (r : Fin 1152) (q : Fin 1024) (h : t.val * 1024 + q.val < 11008) :
    win0_0.fill (grid0.coords t) d (iblk m c 0 t) (ix2 r q) = V m c main_arg0 (ix2 r ⟨_, h⟩) := by
  obtain ⟨i0, i1, s0, s1⟩ := facts0 t
  unfold Window.fill
  rw [dif_pos ((win0_0.moved_iff _ _).mpr (Fin.forall_fin_two.mpr ⟨lt_of_lt_of_eq r.isLt s0.symm, lt_of_lt_of_eq (show q.val < min 1024 (11008 - t.val * 1024) by omega) s1.symm⟩))]
  exact congrArg (V m c main_arg0) (funext (Fin.forall_fin_two.mpr
    ⟨Fin.ext ((win0_0.rect_emb_val t _ (0 : Fin 2)).trans (by rw [i0]; exact (congrArg (· + r.val) (Nat.zero_mul _)).trans (Nat.zero_add _))),
     Fin.ext ((win0_0.rect_emb_val t _ (1 : Fin 2)).trans (by rw [i1]; rfl))⟩))

theorem fill2_at (d) (k : Fin 512) (q : Fin 2048) (h : t.val * 512 + k.val < 5504) :
    win0_2.fill (grid0.coords t) d (iblk m c 2 t) (ix2 k q) = V m c main_arg3 (ix2 ⟨_, h⟩ q) := by
  obtain ⟨i0, i1, s0, s1⟩ := facts2 t
  unfold Window.fill
  rw [dif_pos ((win0_2.moved_iff _ _).mpr (Fin.forall_fin_two.mpr ⟨lt_of_lt_of_eq (show k.val < min 512 (5504 - t.val * 512) by omega) s0.symm, lt_of_lt_of_eq q.isLt s1.symm⟩))]
  exact congrArg (V m c main_arg3) (funext (Fin.forall_fin_two.mpr
    ⟨Fin.ext ((win0_2.rect_emb_val t _ (0 : Fin 2)).trans (by rw [i0]; rfl)),
     Fin.ext ((win0_2.rect_emb_val t _ (1 : Fin 2)).trans (by rw [i1]; exact (congrArg (· + q.val) (Nat.zero_mul _)).trans (Nat.zero_add _)))⟩))

theorem agree (d0 d2) : (opnds m c).Agree t.val (win0_0.fill (grid0.coords t) d0 (iblk m c 0 t)) (win0_2.fill (grid0.coords t) d2 (iblk m c 2 t)) :=
  ⟨fill0_at m c t d0, fill2_at m c t d2⟩

/-- The other input windows take their whole arrays. -/
theorem blk1 : iblk m c 1 t = V m c main_arg1 := by
  obtain ⟨i0, i1⟩ := facts1 t
  funext y
  exact congrArg (V m c main_arg1) (funext (Fin.forall_fin_two.mpr
    ⟨Fin.ext ((win0_1.rect_emb_val t _ (0 : Fin 2)).trans (by rw [i0]; exact (congrArg (· + (y 0).val) (Nat.zero_mul _)).trans (Nat.zero_add _))),
     Fin.ext ((win0_1.rect_emb_val t _ (1 : Fin 2)).trans (by rw [i1]; exact (congrArg (· + (y 1).val) (Nat.zero_mul _)).trans (Nat.zero_add _)))⟩))

theorem blk3 : iblk m c 3 t = V m c main_v0 := by
  obtain ⟨i0, i1⟩ := facts3 t
  funext y
  exact congrArg (V m c main_v0) (funext (Fin.forall_fin_two.mpr
    ⟨Fin.ext ((win0_3.rect_emb_val t _ (0 : Fin 2)).trans (by rw [i0]; exact (congrArg (· + (y 0).val) (Nat.zero_mul _)).trans (Nat.zero_add _))),
     Fin.ext ((win0_3.rect_emb_val t _ (1 : Fin 2)).trans (by rw [i1]; exact (congrArg (· + (y 1).val) (Nat.zero_mul _)).trans (Nat.zero_add _)))⟩))

theorem blk4 : iblk m c 4 t = V m c main_v1 := by
  obtain ⟨i0, i1⟩ := facts4 t
  funext y
  exact congrArg (V m c main_v1) (funext (Fin.forall_fin_two.mpr
    ⟨Fin.ext ((win0_4.rect_emb_val t _ (0 : Fin 2)).trans (by rw [i0]; exact (congrArg (· + (y 0).val) (Nat.zero_mul _)).trans (Nat.zero_add _))),
     Fin.ext ((win0_4.rect_emb_val t _ (1 : Fin 2)).trans (by rw [i1]; exact (congrArg (· + (y 1).val) (Nat.zero_mul _)).trans (Nat.zero_add _)))⟩))

theorem blk5 : iblk m c 5 t = V m c main_v2 := by
  obtain ⟨i0, i1⟩ := facts5 t
  funext y
  exact congrArg (V m c main_v2) (funext (Fin.forall_fin_two.mpr
    ⟨Fin.ext ((win0_5.rect_emb_val t _ (0 : Fin 2)).trans (by rw [i0]; exact (congrArg (· + (y 0).val) (Nat.zero_mul _)).trans (Nat.zero_add _))),
     Fin.ext ((win0_5.rect_emb_val t _ (1 : Fin 2)).trans (by rw [i1]; exact (congrArg (· + (y 1).val) (Nat.zero_mul _)).trans (Nat.zero_add _)))⟩))

end Cert.DownIdeal.Dn

end
-- ==== Proof.Dn.Frame.lean ====
/- The second kernel over the reals: each point's body against the pipeline's data, the whole run, and the frame. -/
module

public import proofs.«01_k».proof.Proof.Dn.Blocks
public import Idealize.ShloMosaic.Lib.Claim

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The two scratch buffers after `n` points: the accumulator and the scales. -/
def PhiS (c : Dev nD) (n : ℕ) : sProp 𝕄 :=
  iprop(iprop(owns (c : Thread nD τ) (Memref.whole cc0_scratch0) fullShare ((opnds m c).ACC n) ∗ owns (c : Thread nD τ) (Memref.whole cc0_scratch1) fullShare (k0_pay6 (opnds m c).sc)) ∗ (∃ r, prngReg c r))

/-- The invariant: before the first point the scratch at anything, then as above. -/
def Phi (c : Dev nD) : ℕ → sProp 𝕄
  | 0 => Pipeline.ΦA spec0 c
  | n + 1 => PhiS m c (n + 1)

theorem Phi_pos (c : Dev nD) (n : ℕ) (h : n ≠ 0) : Phi m c n = PhiS m c n := by
  cases n with
  | zero => exact absurd rfl h
  | succ n => rfl

/-- The result, as the last point stores it. -/
def yAll (c : Dev nD) : Vec Ideal S1152x2048 .bf16 := fun y => (opnds m c).Y ⟨(y 0).val, (y 0).isLt⟩ ⟨(y 1).val, (y 1).isLt⟩

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (Pipeline.Dat.unnamed (cfg := cfg0) (0 : Fin 8) t) (iblk m c 0 t)
    | ⟨1, _⟩ => (opnds m c).sc
    | ⟨2, _⟩ => win0_2.fill (grid0.coords t) (Pipeline.Dat.unnamed (cfg := cfg0) (2 : Fin 8) t) (iblk m c 2 t)
    | ⟨3, _⟩ => (opnds m c).z
    | ⟨4, _⟩ => (opnds m c).sw
    | ⟨5, _⟩ => (opnds m c).h1
    | ⟨6, _⟩ => (opnds m c).cblk t.val
    | ⟨7, _⟩ => yAll m c
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (Pipeline.Dat.unnamed (cfg := cfg0) (0 : Fin 8) t) (iblk m c 0 t) := by dsimp only [dats]
theorem after0_1 (c : Dev nD) (t : Fin cfg0.N) : (dats m 0 c).after 1 t = iblk m c 1 t := by rw [blk1]; dsimp only [dats, opnds]
theorem after0_2 (c : Dev nD) (t : Fin cfg0.N) : (dats m 0 c).after 2 t = win0_2.fill (grid0.coords t) (Pipeline.Dat.unnamed (cfg := cfg0) (2 : Fin 8) t) (iblk m c 2 t) := by dsimp only [dats]
theorem after0_3 (c : Dev nD) (t : Fin cfg0.N) : (dats m 0 c).after 3 t = iblk m c 3 t := by rw [blk3]; dsimp only [dats, opnds]
theorem after0_4 (c : Dev nD) (t : Fin cfg0.N) : (dats m 0 c).after 4 t = iblk m c 4 t := by rw [blk4]; dsimp only [dats, opnds]
theorem after0_5 (c : Dev nD) (t : Fin cfg0.N) : (dats m 0 c).after 5 t = iblk m c 5 t := by rw [blk5]; dsimp only [dats, opnds]
theorem after0_6 (c : Dev nD) (t : Fin cfg0.N) : (dats m 0 c).after 6 t = (opnds m c).cblk t.val := by dsimp only [dats]
theorem after0_7 (c : Dev nD) (t : Fin cfg0.N) : (dats m 0 c).after 7 t = yAll m c := by dsimp only [dats]

/-- What the body finds in a fetched buffer. -/
theorem before0_0 (c : Dev nD) (t : Fin cfg0.N) (d) : (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = (opnds m c).sc :=
  (before0_1_of m (dats m 0 c) (A_eq m c 1) (after0_1 m c) t d).trans (blk1 m c t)
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = (opnds m c).z :=
  (before0_3_of m (dats m 0 c) (A_eq m c 3) (after0_3 m c) t d).trans (blk3 m c t)
theorem before0_4 (c : Dev nD) (t : Fin cfg0.N) (d) : (dats m 0 c).before 4 t d = (opnds m c).sw :=
  (before0_4_of m (dats m 0 c) (A_eq m c 4) (after0_4 m c) t d).trans (blk4 m c t)
theorem before0_5 (c : Dev nD) (t : Fin cfg0.N) (d) : (dats m 0 c).before 5 t d = (opnds m c).h1 :=
  (before0_5_of m (dats m 0 c) (A_eq m c 5) (after0_5 m c) t d).trans (blk5 m c t)

theorem coord_val (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

theorem idle7 : ∀ t : Fin cfg0.N, t.val ≠ 10 → cfg0.idle 7 (grid0.coords t) = true := by decide +kernel
theorem noFlush7 : ∀ t : Fin cfg0.N, t.val ≠ 10 → (cfg0.win 7).flush t = false := by decide +kernel
theorem live7 : ∀ t : Fin cfg0.N, t.val = 10 → cfg0.idle 7 (grid0.coords t) = false := by decide +kernel

theorem leaves7_idle (c : Dev nD) (t : Fin cfg0.N) (h : t.val ≠ 10) :
    (dats m 0 c).leaves 7 t = (iprop(∃ d, owns (c : Thread nD τ) (win0_7.stage (cfg0.slots t 7)) fullShare ((dats m 0 c).before 7 t d)) : sProp 𝕄) := by
  unfold Dat.leaves; rw [idle7 t h, noFlush7 t h]
theorem leaves7_C (c : Dev nD) (t : Fin cfg0.N) (h : t.val = 10) :
    (dats m 0 c).leaves 7 t = (owns (c : Thread nD τ) (win0_7.stage (cfg0.slots t 7)) fullShare (yAll m c) : sProp 𝕄) := by
  unfold Dat.leaves; rw [live7 t h, after0_7]

/-- The kernel's invariant with the two scratch operands as memrefs. -/
theorem PhiA0_eq' (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

/-- The body table's row at a point is the body at the point's staging memrefs. -/
theorem defs₀_row (t : Fin cfg0.N) :
    defs₀ (F := Ideal) .tc cfg0.body (cfg0.bodyArgs t (cfg0.slots t)) = bodyAt0 t := by
  unfold defs₀; rw [Defs.onTc_tc]

set_option maxHeartbeats 8000000 in
/-- The body at a point. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)))
      ⊢ wp frame (wpE (defs₀ (F := Ideal)) Variants.none c none) Set.univ (bodyAt0 t) (fun _ =>
    iprop((dats m 0 c).Φ t.succ ∗ (dats m 0 c).owesAt () t.succ
      ∗ (∃ d, owns (c : Thread nD τ) (win0_0.stage (cfg0.slots t 0)) fullShare (win0_0.fill (grid0.coords t) d (win0_0.cut (grid0.coords t) ((dats m 0 c).after 0 t)))) ∗ owns (c : Thread nD τ) (win0_1.stage (cfg0.slots t 1)) fullShare (opnds m c).sc ∗ (∃ d, owns (c : Thread nD τ) (win0_2.stage (cfg0.slots t 2)) fullShare (win0_2.fill (grid0.coords t) d (win0_2.cut (grid0.coords t) ((dats m 0 c).after 2 t)))) ∗ owns (c : Thread nD τ) (win0_3.stage (cfg0.slots t 3)) fullShare (opnds m c).z ∗ owns (c : Thread nD τ) (win0_4.stage (cfg0.slots t 4)) fullShare (opnds m c).sw ∗ owns (c : Thread nD τ) (win0_5.stage (cfg0.slots t 5)) fullShare (opnds m c).h1 ∗ (∃ d, owns (c : Thread nD τ) (win0_6.stage (cfg0.slots t 6)) fullShare (win0_6.fill (grid0.coords t) d (win0_6.cut (grid0.coords t) ((dats m 0 c).after 6 t)))) ∗ (dats m 0 c).leaves 7 t)) := by
  have hN : t.val < 11 := Nat.lt_of_lt_of_eq t.isLt N_0
  unfold bodyAt0
  rw [show (dats m 0 c).owesAt () t.succ = (dats m 0 c).owesAt () t.castSucc from rfl,
    show (dats m 0 c).Φ t.castSucc = Phi m c t.val from rfl, show (dats m 0 c).Φ t.succ = PhiS m c (t.val + 1) from rfl]
  simp only [before0_0, before0_1, before0_2, before0_3, before0_4, before0_5]
  by_cases h0 : t.val = 0
  · rw [show Phi m c t.val = Pipeline.ΦA spec0 c from by rw [h0]; rfl, PhiA0_eq']
    unfold PhiS
    iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hc0 : cond0_0 (grid0.coords t) := (hcond0_0 t).mpr (by rw [h0])
    have hc1 : ¬cond0_1 (grid0.coords t) := fun h => by have := (hcond0_1 t).mp h; omega
    iapply (stepA (opnds m c) t.val hN (win0_0.fill (grid0.coords t) d0 (iblk m c 0 t)) (win0_2.fill (grid0.coords t) d2 (iblk m c 2 t)) (agree m c t d0 d2) c (grid0.coords t) (coord_val t) h0 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (Memref.whole cc0_scratch0) (Memref.isWhole_whole _) (Memref.whole cc0_scratch1) (Memref.isWhole_whole _) hc0 hc1 ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [S0]; · iexact S0
    isplitl [S1]; · iexact S1
    iintro ⟨H0, H1, H2, H3, H4, H5, H6, H7, S0, S1⟩
    isplitl [S0 S1 Hg]
    · isplitl [S0 S1]
      · isplitl [S0]; · iexact S0
        iexact S1
      iexact Hg
    isplitl [Ho]; · iexact Ho
    isplitl [H0]; · iexists d0; rw [after0_0, win0_0.cut_fill]; iexact H0
    isplitl [H1]; · iexact H1
    isplitl [H2]; · iexists d2; rw [after0_2, win0_2.cut_fill]; iexact H2
    isplitl [H3]; · iexact H3
    isplitl [H4]; · iexact H4
    isplitl [H5]; · iexact H5
    isplitl [H6]; · iexists (dats m 0 c).after 6 t; rw [win0_6.fill_cut, after0_6]; iexact H6
    rw [leaves7_idle m c t (by omega)]; iexists d7; iexact H7
  rw [Phi_pos m c _ h0]
  unfold PhiS
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc0 : ¬cond0_0 (grid0.coords t) := fun h => h0 (by have := (hcond0_0 t).mp h; omega)
  by_cases h1 : t.val = 10
  · have hc1 : cond0_1 (grid0.coords t) := (hcond0_1 t).mpr (by rw [h1])
    iapply (stepC (opnds m c) t.val hN (win0_0.fill (grid0.coords t) d0 (iblk m c 0 t)) (win0_2.fill (grid0.coords t) d2 (iblk m c 2 t)) (agree m c t d0 d2) c (grid0.coords t) (coord_val t) h1 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (Memref.whole cc0_scratch0) (Memref.isWhole_whole _) (Memref.whole cc0_scratch1) (Memref.isWhole_whole _) hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [S0]; · iexact S0
    isplitl [S1]; · iexact S1
    iintro ⟨H0, H1, H2, H3, H4, H5, H6, H7, S0, S1⟩
    isplitl [S0 S1 Hg]
    · isplitl [S0 S1]
      · isplitl [S0]; · iexact S0
        iexact S1
      iexact Hg
    isplitl [Ho]; · iexact Ho
    isplitl [H0]; · iexists d0; rw [after0_0, win0_0.cut_fill]; iexact H0
    isplitl [H1]; · iexact H1
    isplitl [H2]; · iexists d2; rw [after0_2, win0_2.cut_fill]; iexact H2
    isplitl [H3]; · iexact H3
    isplitl [H4]; · iexact H4
    isplitl [H5]; · iexact H5
    isplitl [H6]; · iexists (dats m 0 c).after 6 t; rw [win0_6.fill_cut, after0_6]; iexact H6
    rw [leaves7_C m c t h1]; iexact H7
  · have hc1 : ¬cond0_1 (grid0.coords t) := fun h => h1 (by have := (hcond0_1 t).mp h; omega)
    iapply (stepB (opnds m c) t.val hN (win0_0.fill (grid0.coords t) d0 (iblk m c 0 t)) (win0_2.fill (grid0.coords t) d2 (iblk m c 2 t)) (agree m c t d0 d2) c (grid0.coords t) (coord_val t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (Memref.whole cc0_scratch0) (Memref.isWhole_whole _) (Memref.whole cc0_scratch1) (Memref.isWhole_whole _) hc0 hc1 ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [S0]; · iexact S0
    isplitl [S1]; · iexact S1
    iintro ⟨H0, H1, H2, H3, H4, H5, H6, H7, S0, S1⟩
    isplitl [S0 S1 Hg]
    · isplitl [S0 S1]
      · isplitl [S0]; · iexact S0
        iexact S1
      iexact Hg
    isplitl [Ho]; · iexact Ho
    isplitl [H0]; · iexists d0; rw [after0_0, win0_0.cut_fill]; iexact H0
    isplitl [H1]; · iexact H1
    isplitl [H2]; · iexists d2; rw [after0_2, win0_2.cut_fill]; iexact H2
    isplitl [H3]; · iexact H3
    isplitl [H4]; · iexact H4
    isplitl [H5]; · iexact H5
    isplitl [H6]; · iexists (dats m 0 c).after 6 t; rw [win0_6.fill_cut, after0_6]; iexact H6
    rw [leaves7_idle m c t (by omega)]; iexists d7; iexact H7

/-- The library's body obligation. -/
theorem body_obligation (c : Dev nD) : BodyObligationLoose (dats m 0 c) (defs₀ (F := Ideal)) Variants.none () Set.univ := fun t => by
  rw [bigSep_W0, bigSep_W0, defs₀_row]; dsimp only
  exact triple_restated (sound_body m c t) rfl .rfl fun _ => .rfl

/-- What the launch hands the region is the invariant before the first point. -/
theorem hin (c : Dev nD) : Pipeline.ΦA spec0 c ⊢ (dats m 0 c).Φ 0 := .rfl

/-- After the last point the invariant gives it back. -/
theorem hout (c : Dev nD) : (dats m 0 c).Φ (Fin.last cfg0.N) ⊢ Pipeline.ΦA spec0 c := by
  rw [show (dats m 0 c).Φ (Fin.last cfg0.N) = Phi m c cfg0.N from rfl, Phi_pos m c _ (by rw [show cfg0.N = 11 from N_0]; decide), PhiA0_eq']
  unfold PhiS
  iintro ⟨⟨HS0, HS1⟩, Hg⟩
  isplitl [HS0 HS1]
  · isplitl [HS0]
    · iexists _; iexact HS0
    iexists _; iexact HS1
  iexact Hg

-- the launch theorem's implicit arguments are found by unifying its conclusion with this one
set_option backward.isDefEq.respectTransparency.types false in
/-- The run: every array of the pipeline ends at what the data says, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DownIdeal.Dn

end
-- ==== Proof.Dn.Value.lean ====
/- The arrays the second kernel leaves, in closed form, and its run with them. -/
module

public import proofs.«01_k».proof.Proof.Dn.Frame

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The codes' array. -/
def G6 (c : Dev nD) : Buf (Elt Ideal) ((c : Thread nD τ).loc main_v3_0) := fun i => BitVec.ofInt 8 ((opnds m c).code ⟨(i 0).val, (i 0).isLt⟩ (i 1).val)

set_option maxHeartbeats 1000000 in
theorem flushed6_eq (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  obtain ⟨i0, i1, s0, s1⟩ := facts6 t
  funext y
  have b0 := win0_6.rect_emb_val t y (0 : Fin 2)
  have b1 := win0_6.rect_emb_val t y (1 : Fin 2)
  rw [i0] at b0; rw [i1] at b1
  have b0' : (((cfg0.win 6).blk t).view.emb y 0).val = (y 0).val := b0.trans ((congrArg (· + (y 0).val) (Nat.zero_mul _)).trans (Nat.zero_add _))
  have b1' : (((cfg0.win 6).blk t).view.emb y 1).val = t.val * 1024 + (y 1).val := b1
  show BitVec.ofInt 8 ((opnds m c).code ⟨(y 0).val, _⟩ (t.val * 1024 + (y 1).val)) = BitVec.ofInt 8 ((opnds m c).code ⟨(((cfg0.win 6).blk t).view.emb y 0).val, _⟩ (((cfg0.win 6).blk t).view.emb y 1).val)
  exact congrArg (BitVec.ofInt 8) (congr (congrArg _ (Fin.ext b0'.symm)) b1'.symm)

theorem cover6 (i : S1152x11008.Idx) : ∃ t : Fin cfg0.N, (cfg0.win 6).flush t = true ∧ i ∈ ((cfg0.win 6).blk t).view.set := by
  have h0 : (i 0).val < 1152 := (i 0).isLt
  have h1 : (i 1).val < 11008 := (i 1).isLt
  let t : Fin grid0.N := ⟨(i 1).val / 1024, lt_of_lt_of_eq (by omega) N_0.symm⟩
  obtain ⟨i0, i1, s0, s1⟩ := facts6 t
  refine ⟨t, flush0_6 t, ?_⟩
  show i ∈ ((View.whole main_v3_0).slice (win0_6.rect t)).set
  rw [View.set_slice_whole, Rect.mem_set_unit]
  have ht : t.val = (i 1).val / 1024 := rfl
  refine Fin.forall_fin_two.mpr ⟨?_, ?_⟩
  · show win0_6.index t (0 : Fin 2) * 1152 ≤ (i 0).val ∧ (i 0).val < win0_6.index t (0 : Fin 2) * 1152 + win0_6.xsize (grid0.coords t) (0 : Fin 2)
    rw [i0, s0]; omega
  · show win0_6.index t (1 : Fin 2) * 1024 ≤ (i 1).val ∧ (i 1).val < win0_6.index t (1 : Fin 2) * 1024 + win0_6.xsize (grid0.coords t) (1 : Fin 2)
    rw [i1, s1]; omega

theorem final6 (c : Dev nD) : (dats m 0 c).arrAt 6 cfg0.N = G6 m c :=
  (dats m 0 c).arrAt_eq_of_cover 6 _ (fun t hf => flushed6_eq m c t) cover6

/-- The result's array. -/
def G7 (c : Dev nD) : Buf (Elt Ideal) ((c : Thread nD τ).loc main_v3_1) := yAll m c

/-- The whole-array block reads an array as it is. -/
theorem whole7 (t : Fin cfg0.N) (c : Dev nD) (G : Buf (Elt Ideal) ((c : Thread nD τ).loc main_v3_1)) :
    (cfg0.win 7).cut (grid0.coords t) G = ((cfg0.win 7).blk t).view.read (Elt Ideal) G := by
  obtain ⟨i0, i1⟩ := facts7 t
  funext y
  exact congrArg G (funext (Fin.forall_fin_two.mpr
    ⟨Fin.ext ((win0_7.rect_emb_val t _ (0 : Fin 2)).trans (by rw [i0]; exact (congrArg (· + (y 0).val) (Nat.zero_mul _)).trans (Nat.zero_add _))).symm,
     Fin.ext ((win0_7.rect_emb_val t _ (1 : Fin 2)).trans (by rw [i1]; exact (congrArg (· + (y 1).val) (Nat.zero_mul _)).trans (Nat.zero_add _))).symm⟩))

theorem flushed7_eq (c : Dev nD) (t : Fin cfg0.N) (hf : (cfg0.win 7).flush t = true) : (dats m 0 c).flushed 7 t = ((cfg0.win 7).blk t).view.read (Elt Ideal) (G7 m c) := by
  have hm : t.val % 11 = 10 := (flush0_7 t).mp hf
  have hN : t.val < 11 := t.isLt.trans_eq N_0
  rw [← whole7 t c]
  show (cfg0.win 7).cut (grid0.coords t) ((dats m 0 c).after 7 t) = _
  rw [after0_7]
  rfl

theorem cover7 (i : S1152x2048.Idx) : ∃ t : Fin cfg0.N, (cfg0.win 7).flush t = true ∧ i ∈ ((cfg0.win 7).blk t).view.set := by
  have h0 : (i 0).val < 1152 := (i 0).isLt
  have h1 : (i 1).val < 2048 := (i 1).isLt
  let t : Fin grid0.N := ⟨10, lt_of_lt_of_eq (by omega) N_0.symm⟩
  obtain ⟨i0, i1⟩ := facts7 t
  refine ⟨t, (flush0_7 t).mpr rfl, ?_⟩
  show i ∈ ((View.whole main_v3_1).slice (win0_7.rect t)).set
  rw [View.set_slice_whole, Rect.mem_set_unit]
  refine Fin.forall_fin_two.mpr ⟨?_, ?_⟩
  · show win0_7.index t (0 : Fin 2) * 1152 ≤ (i 0).val ∧ (i 0).val < win0_7.index t (0 : Fin 2) * 1152 + 1152
    rw [i0]; omega
  · show win0_7.index t (1 : Fin 2) * 2048 ≤ (i 1).val ∧ (i 1).val < win0_7.index t (1 : Fin 2) * 2048 + 2048
    rw [i1]; omega

theorem final7 (c : Dev nD) : (dats m 0 c).arrAt 7 cfg0.N = G7 m c :=
  (dats m 0 c).arrAt_eq_of_cover 7 _ (fun t hf => flushed7_eq m c t hf) cover7

/-- The run with its arrays. -/
theorem run : θ_run defs (onTc (τ := τ) (main (F := Ideal))) ⟨m, fun _ => 0, ρ⟩ fun r => ∀ c : Dev nD,
      (r.2.mem ((c : Thread nD τ).loc main_v3_0) = G6 m c
      ∧ r.2.mem ((c : Thread nD τ).loc main_v3_1) = G7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨⟨((h.1 c).1 6).trans (final6 m c), ((h.1 c).1 7).trans (final7 m c)⟩, h.2 c⟩)
    (θ_run_and (run_main m ρ) (frame_of m ρ (dats m) (A_eq m) (run_main m ρ)))

end Cert.DownIdeal.Dn

end
-- ==== Proof.DnRef.Acc.lean ====
/- The second reference's integer accumulators: two dot products of 8-bit codes with 4-bit weights, less the zero point
   times the codes' sum, all in 32-bit words, is the word of the integer `∑ a (w - z)`. -/
module

public import proofs.«01_k».proof.Proof.Gen.DownRefIdeal.Frame
public import proofs.«01_k».proof.Proof.Dn.Cell
public import proofs.«01_k».proof.Proof.Ref.Acc

@[expose] public section

noncomputable section

namespace Cert.DownRefIdeal.Ref

open Cert.DownRefIdeal Cert.DownRefIdeal.Gen
open Idealize.ShloMosaic Idealize.ShloMosaic.TcCoe Idealize.ShloMosaic.Tactic
open Cert.GateUpIdeal.Up (nib ir)
open Cert.GateUpRefIdeal.Ref (lo_eq hi_eq word_ring)
open Cert.DownIdeal.Dn (In clipZ clip_eq clipZ_abs fptosi_ir toInt_ofInt8 sum_pairs)

/-- A one-axis contraction of 5504 positions, summed by its coordinate. -/
def contrE : dot_S1152x5504_S5504x2048_S1152x2048_1_0_0_1_n_n.contr.Idx ≃ Fin 5504 :=
  ValueIdx.contrEquiv1 _ 5504 rfl rfl

theorem lhsIdx_eq (r : Fin 1152) (j : Fin 2048) (k : Fin 5504) :
    dot_S1152x5504_S5504x2048_S1152x2048_1_0_0_1_n_n.lhsIdx (ix2 r j) (contrE.symm k) = ix2 r k := by
  have hk := ValueIdx.contrEquiv1_symm_val dot_S1152x5504_S5504x2048_S1152x2048_1_0_0_1_n_n 5504 rfl rfl k
  funext a; apply Fin.ext
  match a with
  | ⟨0, _⟩ => rfl
  | ⟨1, _⟩ => exact hk
theorem rhsIdx_eq (r : Fin 1152) (j : Fin 2048) (k : Fin 5504) :
    dot_S1152x5504_S5504x2048_S1152x2048_1_0_0_1_n_n.rhsIdx (ix2 r j) (contrE.symm k) = ix2 k j := by
  have hk := ValueIdx.contrEquiv1_symm_val dot_S1152x5504_S5504x2048_S1152x2048_1_0_0_1_n_n 5504 rfl rfl k
  funext a; apply Fin.ext
  match a with
  | ⟨0, _⟩ => exact hk
  | ⟨1, _⟩ => rfl

/-- A dot product of codes with 4-bit weights, as a word. -/
theorem mm_apply (a : IVec S1152x5504 8) (q : IVec S5504x2048 8) (r : Fin 1152) (j : Fin 2048)
    (hq : ∀ k : Fin 5504, (q (ix2 k j)).toInt.natAbs ≤ 15) :
    matmulI8 IntMxuNumerics.v7x dot_S1152x5504_S5504x2048_S1152x2048_1_0_0_1_n_n a q (constantI S1152x2048 32 0#32) (ix2 r j)
      = BitVec.ofInt 32 (∑ k : Fin 5504, (a (ix2 r k)).toInt * (q (ix2 k j)).toInt) := by
  rw [matmulI8_exact _ _ a q _ _ rfl]
  · unfold dotI8
    rw [← Equiv.sum_comp contrE.symm]
    simp only [lhsIdx_eq, rhsIdx_eq]
  · unfold absDotI8
    rw [← Equiv.sum_comp contrE.symm]
    simp only [lhsIdx_eq, rhsIdx_eq]
    refine (Finset.sum_le_card_nsmul Finset.univ _ (128 * 15) fun k _ => ?_).trans (by simp)
    rw [Int.natAbs_mul]
    exact Nat.mul_le_mul (natAbs_toInt_i8_le _) (hq k)

/-- A row's sum of codes, as a word. -/
theorem rs_apply (a : IVec S1152x5504 8) (r : Fin 1152) :
    multiReductionI .add [1] S1152 (extsi 32 a natLt_8_32) 0#32 reduces_S1152x5504_S1152 rfl (ix1 r)
      = BitVec.ofInt 32 (∑ k : Fin 5504, (a (ix2 r k)).toInt) := by
  refine (congrFun (multiReductionI_eq_reduceFold .add _ _ _ rfl) _).trans ?_
  show reduceFold reduces_S1152x5504_S1152 (· + ·) (0#32 : BitVec 32) _ (ix1 r) = _
  rw [reduceFold_add_eq_sum, Shape.Reduces.sum_filter_drop_single, show (0#32 : BitVec 32) = 0 from rfl, zero_add]
  show _ = ((∑ k : Fin 5504, (a (ix2 r k)).toInt : ℤ) : BitVec 32)
  rw [Int.cast_sum]
  refine Finset.sum_congr rfl fun k _ => ?_
  show BitVec.ofInt 32 _ = BitVec.ofInt 32 _
  congr 3
  funext d; apply Fin.ext
  match d with
  | ⟨0, _⟩ => rfl
  | ⟨1, _⟩ => rfl

/-- The low and the high halves of the packed weights. -/
def lo (w : IVec S5504x2048 8) : IVec S5504x2048 8 := trunci 8 (andi (extui 32 w natLt_8_32) (broadcast S5504x2048 15#32)) natLt_8_32
def hi (w : IVec S5504x2048 8) : IVec S5504x2048 8 := trunci 8 (shrsi (extui 32 w natLt_8_32) (broadcast S5504x2048 4#32)) natLt_8_32

theorem lo_apply (w : IVec S5504x2048 8) (i : S5504x2048.Idx) : (lo w i).toInt = ((w i).toNat % 16 : ℕ) := lo_eq (w i)
theorem hi_apply (w : IVec S5504x2048 8) (i : S5504x2048.Idx) : (hi w i).toInt = ((w i).toNat / 16 : ℕ) := hi_eq (w i)

/-- One accumulator, as the reference writes it. -/
def acc (e o : IVec S1152x5504 8) (w : IVec S5504x2048 8) (z : IVec S1x2048 8) : IVec S1152x2048 32 :=
  addi (subi (matmulI8 IntMxuNumerics.v7x dot_S1152x5504_S5504x2048_S1152x2048_1_0_0_1_n_n e (lo w) (constantI S1152x2048 32 0#32))
      (muli (broadcastTo S1152x2048 (extsi 32 z natLt_8_32) broadcasts_S1x2048_S1152x2048)
        (broadcastTo S1152x2048 (addi (shapeCast S1152x1 (multiReductionI .add [1] S1152 (extsi 32 e natLt_8_32) 0#32 reduces_S1152x5504_S1152 rfl) shapeCasts_S1152_S1152x1)
          (shapeCast S1152x1 (multiReductionI .add [1] S1152 (extsi 32 o natLt_8_32) 0#32 reduces_S1152x5504_S1152 rfl) shapeCasts_S1152_S1152x1)) broadcasts_S1152x1_S1152x2048)))
    (matmulI8 IntMxuNumerics.v7x dot_S1152x5504_S5504x2048_S1152x2048_1_0_0_1_n_n o (hi w) (constantI S1152x2048 32 0#32))

theorem col_apply (v : IVec S1152 32) (r : Fin 1152) : shapeCast S1152x1 v shapeCasts_S1152_S1152x1 (ix2 r 0) = v (ix1 r) := by
  pointwise
theorem bz_apply (v : IVec S1x2048 32) (r : Fin 1152) (j : Fin 2048) : broadcastTo S1152x2048 v broadcasts_S1x2048_S1152x2048 (ix2 r j) = v (ix2 0 j) := by
  pointwise
theorem br_apply (v : IVec S1152x1 32) (r : Fin 1152) (j : Fin 2048) : broadcastTo S1152x2048 v broadcasts_S1152x1_S1152x2048 (ix2 r j) = v (ix2 r 0) := by
  pointwise

/-- The exact integer an accumulator stands for. -/
def accZ (e o : IVec S1152x5504 8) (w : IVec S5504x2048 8) (z : IVec S1x2048 8) (r : Fin 1152) (j : Fin 2048) : ℤ :=
  ∑ k : Fin 5504, ((e (ix2 r k)).toInt * (((w (ix2 k j)).toNat % 16 : ℕ) - (z (ix2 0 j)).toInt) + (o (ix2 r k)).toInt * (((w (ix2 k j)).toNat / 16 : ℕ) - (z (ix2 0 j)).toInt))

theorem accZ_eq (e o : IVec S1152x5504 8) (w : IVec S5504x2048 8) (z : IVec S1x2048 8) (r : Fin 1152) (j : Fin 2048) :
    accZ e o w z r j = ((∑ k : Fin 5504, (e (ix2 r k)).toInt * (lo w (ix2 k j)).toInt)
      - (z (ix2 0 j)).toInt * ((∑ k : Fin 5504, (e (ix2 r k)).toInt) + (∑ k : Fin 5504, (o (ix2 r k)).toInt)))
      + ∑ k : Fin 5504, (o (ix2 r k)).toInt * (hi w (ix2 k j)).toInt := by
  simp only [lo_apply, hi_apply]
  unfold accZ
  rw [mul_add, Finset.mul_sum, Finset.mul_sum, ← Finset.sum_add_distrib, ← Finset.sum_sub_distrib, ← Finset.sum_add_distrib]
  exact Finset.sum_congr rfl fun k _ => by ring

theorem acc_word (e o : IVec S1152x5504 8) (w : IVec S5504x2048 8) (z : IVec S1x2048 8) (r : Fin 1152) (j : Fin 2048) :
    acc e o w z (ix2 r j) = BitVec.ofInt 32 (accZ e o w z r j) := by
  have h1 := mm_apply e (lo w) r j (fun k => by rw [lo_apply]; omega)
  have h2 := mm_apply o (hi w) r j (fun k => by rw [hi_apply]; have := (w (ix2 k j)).isLt; omega)
  rw [accZ_eq]
  show (_ - _ * _) + _ = _
  rw [h1, h2, br_apply, bz_apply]
  show (_ - _ * (_ + _)) + _ = _
  rw [col_apply, col_apply, rs_apply, rs_apply]
  exact word_ring _ _ _ _ _

/-- The integer of codes at the even and the odd columns is the whole contraction. -/
theorem accZ_tot (I : In) (e o : IVec S1152x5504 8) (r : Fin 1152) (c : Fin 2048)
    (he : ∀ k : Fin 5504, (e (ix2 r k)).toInt = I.code r (2 * k)) (ho : ∀ k : Fin 5504, (o (ix2 r k)).toInt = I.code r (2 * k + 1)) :
    accZ e o I.w I.z r c = I.tot 11 r c := by
  have hz : ∑ j ∈ Finset.range 256, I.term r c (11008 + j) = 0 :=
    Finset.sum_eq_zero fun j _ => by unfold In.term; rw [dif_neg (by omega)]
  unfold In.tot
  rw [show 11 * 1024 = 11008 + 256 from rfl, Finset.sum_range_add, hz, add_zero, ← Fin.sum_univ_eq_sum_range (fun j => I.term r c j) 11008]
  rw [show (11008 : ℕ) = 2 * 5504 from rfl, sum_pairs 5504 (fun j => I.term r c j)]
  unfold accZ
  refine Finset.sum_congr rfl fun k _ => ?_
  have hk := k.isLt
  have h0 : (⟨(2 * k.val) / 2, by omega⟩ : Fin 5504) = k := Fin.ext (by show (2 * k.val) / 2 = _; omega)
  have h1 : (⟨(2 * k.val + 1) / 2, by omega⟩ : Fin 5504) = k := Fin.ext (by show (2 * k.val + 1) / 2 = _; omega)
  unfold In.term
  rw [dif_pos (by omega), dif_pos (by omega), he, ho]
  simp only [h0, h1]
  unfold nib
  rw [if_pos (by omega), if_neg (by omega)]

end Cert.DownRefIdeal.Ref

end
-- ==== Proof.DnRef.Pay.lean ====
/- What the second reference's body computes, at an index: the codes and the result, as the second kernel's closed form. -/
module

public import proofs.«01_k».proof.Proof.DnRef.Acc
public import proofs.«01_k».proof.Proof.Ref.Pay

@[expose] public section

noncomputable section

namespace Cert.DownRefIdeal.Ref

open Cert.DownRefIdeal Cert.DownRefIdeal.Gen
open Idealize.ShloMosaic Idealize.ShloMosaic.TcCoe Idealize.ShloMosaic.Tactic
open Cert.GateUpIdeal.Up (nib ir)
open Cert.GateUpRefIdeal.Ref (z2)
open Cert.DownIdeal.Dn (In clipZ clip_eq clipZ_abs fptosi_ir toInt_ofInt8)

theorem bzf_apply (v : FVec Ideal S1x2048 .f32) (r : Fin 1152) (j : Fin 2048) : broadcastTo S1152x2048 v broadcasts_S1x2048_S1152x2048 (ix2 r j) = v (ix2 0 j) := by
  pointwise
theorem brf_apply (v : FVec Ideal S1152x1 .f32) (r : Fin 1152) (j : Fin 2048) : broadcastTo S1152x2048 v broadcasts_S1152x1_S1152x2048 (ix2 r j) = v (ix2 r 0) := by
  pointwise
theorem bcf_apply (v : FVec Ideal S1152x1 .f32) (r : Fin 1152) (j : Fin 11008) : broadcastTo S1152x11008 v broadcasts_S1152x1_S1152x11008 (ix2 r j) = v (ix2 r 0) := by
  pointwise
theorem bhf_apply (v : FVec Ideal S1152x1 .f32) (r : Fin 1152) (j : Fin 5504) : broadcastTo S1152x5504 v broadcasts_S1152x1_S1152x5504 (ix2 r j) = v (ix2 r 0) := by
  pointwise

theorem even_lt (k : Fin 5504) : 2 * k.val < 11008 := by omega
theorem odd_lt (k : Fin 5504) : 2 * k.val + 1 < 11008 := by omega

/-- A clipped code as an 8-bit word. -/
theorem word8 (v : EReal) :
    Ideal.fptosi 8 (min (Ideal.ofBits .f32 0x42FE0000#32) (max (Ideal.ofBits .f32 0xC2FE0000#32) (Ideal.liftRound Ideal.roundHalfEven v))) = BitVec.ofInt 8 (clipZ v) := by
  have h := clipZ_abs v
  rw [clip_eq, fptosi_ir] <;> norm_num <;> omega

theorem pay2_id (v : Vec Ideal S1152x1 .f32) : k0_pay2 v = v := shapeCast_self v _
theorem pay6_id (v : Vec Ideal S1152x2048 .f32) : k0_pay6 v = v := shapeCast_self v _
theorem pay7_id (v : Vec Ideal S1x2048 .f32) : k0_pay7 v = v := shapeCast_self v _

theorem pay3_apply (s : Vec Ideal S1152x1 .f32) (x : Vec Ideal S1152x11008 .f32) (r : Fin 1152) (j : Fin 11008) :
    k0_pay3 s x (ix2 r j) = BitVec.ofInt 8 (clipZ (Ideal.div (x (ix2 r j)) (s (ix2 r 0)))) := by
  refine (word8 (Ideal.div (x (ix2 r j)) (broadcastTo S1152x11008 (k0_pay2 s) broadcasts_S1152x1_S1152x11008 (ix2 r j)))).trans ?_
  rw [bcf_apply, pay2_id]
theorem pay4_apply (s : Vec Ideal S1152x1 .f32) (x : Vec Ideal S1152x5504 .f32) (r : Fin 1152) (j : Fin 5504) :
    k0_pay4 s x (ix2 r j) = BitVec.ofInt 8 (clipZ (Ideal.div (x (ix2 r j)) (s (ix2 r 0)))) := by
  refine (word8 (Ideal.div (shapeCast S1152x5504 x shapeCasts_S1152x5504_S1152x5504 (ix2 r j)) (broadcastTo S1152x5504 (k0_pay2 s) broadcasts_S1152x1_S1152x5504 (ix2 r j)))).trans ?_
  rw [bhf_apply, pay2_id, shapeCast_self]
theorem pay5_apply (s : Vec Ideal S1152x1 .f32) (x : Vec Ideal S1152x5504 .f32) (r : Fin 1152) (j : Fin 5504) :
    k0_pay5 s x (ix2 r j) = BitVec.ofInt 8 (clipZ (Ideal.div (x (ix2 r j)) (s (ix2 r 0)))) :=
  pay4_apply s x r j

theorem pay1_apply (s : FVec Ideal S1152x1 .f32) (e o : IVec S1152x5504 8) (h1 : FVec Ideal S1152x2048 .f32) (w : Vec Ideal S5504x2048 .i8) (v : FVec Ideal S1x2048 .f32) (z : Vec Ideal S1x2048 .i8)
    (r : Fin 1152) (c : Fin 2048) :
    k0_pay1 s e o h1 w v z (ix2 r c) = h1 (ix2 r c) + ir (acc e o w z (ix2 r c)).toInt * s (ix2 r 0) * v (ix2 0 c) := by
  show h1 (ix2 r c) + ir (acc e o w (shapeCast S1x2048 z shapeCasts_S1x2048_S1x2048) (ix2 r c)).toInt * broadcastTo S1152x2048 s broadcasts_S1152x1_S1152x2048 (ix2 r c) * broadcastTo S1152x2048 v broadcasts_S1x2048_S1152x2048 (ix2 r c) = _
  rw [bzf_apply, brf_apply, shapeCast_self]

variable (I : In) (x1 x2 : Vec Ideal S1152x5504 .f32) (x3 : Vec Ideal S1152x1 .f32)
  (he : ∀ (r : Fin 1152) (k : Fin 5504), x1 (ix2 r k) = I.m (ix2 r ⟨2 * k, even_lt k⟩))
  (ho : ∀ (r : Fin 1152) (k : Fin 5504), x2 (ix2 r k) = I.m (ix2 r ⟨2 * k + 1, odd_lt k⟩))
  (hs : ∀ r : Fin 1152, x3 (ix2 r 0) = I.sc (ix2 0 r))

theorem code_toInt (r : Fin 1152) (j : ℕ) (h : j < 11008) :
    (BitVec.ofInt 8 (clipZ (Ideal.div (I.m (ix2 r ⟨j, h⟩)) (I.sc (ix2 0 r))))).toInt = I.code r j := by
  have hb := clipZ_abs (Ideal.div (I.m (ix2 r ⟨j, h⟩)) (I.sc (ix2 0 r)))
  unfold In.code
  rw [dif_pos h, toInt_ofInt8 _ hb.1 hb.2]

include hs in
/-- The reference's codes. -/
theorem codes_apply (r : Fin 1152) (j : Fin 11008) : k0_pay3 x3 I.m (ix2 r j) = BitVec.ofInt 8 (I.code r j) := by
  rw [pay3_apply, hs]
  unfold In.code
  rw [dif_pos j.isLt]

include he ho hs in
/-- The reference's result. -/
theorem result_apply (r : Fin 1152) (c : Fin 2048) :
    k0_pay1 x3 (k0_pay4 x3 x1) (k0_pay5 x3 x2) I.h1 I.w I.sw I.z (ix2 r c) = I.Y r c := by
  rw [pay1_apply, acc_word, accZ_tot I _ _ r c, hs]
  · rfl
  · intro k
    rw [pay4_apply, he, hs]
    exact code_toInt I r (2 * k) (by omega)
  · intro k
    rw [pay5_apply, ho, hs]
    exact code_toInt I r (2 * k + 1) (by omega)

theorem out8_eq (x0 : Vec Ideal S1152x11008 .f32) (x1 x2 : Vec Ideal S1152x5504 .f32) (x3 : Vec Ideal S1152x1 .f32) (x4 : Vec Ideal S1152x2048 .f32) (x5 : Vec Ideal S5504x2048 .i8) (x6 : Vec Ideal S1x2048 .f32) (x7 : Vec Ideal S1x2048 .i8) :
    out0_8 x0 x1 x2 x3 x4 x5 x6 x7 = k0_pay3 x3 x0 := by
  unfold out0_8
  rw [View.canon_unit_zero z2, View.ld_unit_zero (S := S1152x1) z2, View.ld_unit_zero (S := S1152x11008) z2]

theorem out9_eq (x0 : Vec Ideal S1152x11008 .f32) (x1 x2 : Vec Ideal S1152x5504 .f32) (x3 : Vec Ideal S1152x1 .f32) (x4 : Vec Ideal S1152x2048 .f32) (x5 : Vec Ideal S5504x2048 .i8) (x6 : Vec Ideal S1x2048 .f32) (x7 : Vec Ideal S1x2048 .i8) :
    out0_9 x0 x1 x2 x3 x4 x5 x6 x7 = k0_pay1 x3 (k0_pay4 x3 x1) (k0_pay5 x3 x2) x4 x5 x6 x7 := by
  unfold out0_9
  rw [View.canon_unit_zero z2, pay2_id, pay6_id, pay7_id, View.ld_unit_zero (S := S1152x1) z2, View.ld_unit_zero (S := S1152x5504) z2, View.ld_unit_zero (S := S1152x5504) z2,
    View.ld_unit_zero (S := S1152x2048) z2, View.ld_unit_zero (S := S5504x2048) z2, View.ld_unit_zero (S := S1x2048) z2, View.ld_unit_zero (S := S1x2048) z2]

end Cert.DownRefIdeal.Ref

end
-- ==== Proof.DnRef.Final.lean ====
/- The arrays the second reference leaves, in closed form, from the six arguments. -/
module

public import proofs.«01_k».proof.Proof.DnRef.Pay
public import proofs.«01_k».proof.Proof.Gen.DownRefIdeal.Value
public import Idealize.ShloMosaic.Lib.Pipeline.Value

@[expose] public section

set_option maxRecDepth 16384

noncomputable section

namespace Cert.DownRefIdeal.Ref

open Cert.DownRefIdeal Cert.DownRefIdeal.Gen
open Idealize.ShloMosaic Idealize.ShloMosaic.TcCoe Idealize.ShloMosaic.Tactic
open Cert.DownIdeal.Dn (In)
open Idealize.SL.Sem
open Idealize.ShloMosaic.Pipeline (Dat Cfg Window)

/-- The call's operands, of its six arguments. -/
def ofArgs (a0 : Vec Ideal S1152x11008 .f32) (a1 : Vec Ideal S1x1152 .f32) (a2 : Vec Ideal S3x384x2048 .f32) (a3 : Vec Ideal S5504x2048 .i8) (a4 : Vec Ideal S2048 .f32) (a5 : Vec Ideal S2048 .i8) : In where
  m := a0
  sc := a1
  w := a3
  z := broadcastInDim S1x2048 ![1] bcast_S2048_S1x2048_1 a5
  sw := broadcastInDim S1x2048 ![1] bcast_S2048_S1x2048_1 a4
  h1 := shapeCast S1152x2048 a2 shapeCasts_S3x384x2048_S1152x2048

theorem even_apply (X : Vec Ideal S1152x11008 .f32) (r : Fin 1152) (k : Fin 5504) :
    Host.slice S1152x5504 ![0, 0] ![1, 2] X slicesBy_S1152x11008_S1152x5504_0s1_0s2 (ix2 r k) = X (ix2 r ⟨2 * k, even_lt k⟩) := by
  refine congrArg X (funext fun d => Fin.ext ?_)
  match d with
  | ⟨0, _⟩ => show 0 + 1 * r.val = r.val; omega
  | ⟨1, _⟩ => show 0 + 2 * k.val = 2 * k.val; omega
theorem odd_apply (X : Vec Ideal S1152x11008 .f32) (r : Fin 1152) (k : Fin 5504) :
    Host.slice S1152x5504 ![0, 1] ![1, 2] X slicesBy_S1152x11008_S1152x5504_0s1_1s2 (ix2 r k) = X (ix2 r ⟨2 * k + 1, odd_lt k⟩) := by
  refine congrArg X (funext fun d => Fin.ext ?_)
  match d with
  | ⟨0, _⟩ => show 0 + 1 * r.val = r.val; omega
  | ⟨1, _⟩ => show 1 + 2 * k.val = 2 * k.val + 1; omega
theorem scales_apply (X : Vec Ideal S1x1152 .f32) (r : Fin 1152) :
    shapeCast S1152x1 X shapeCasts_S1x1152_S1152x1 (ix2 r 0) = X (ix2 0 r) := by
  pointwise

variable (m : (ℓ : Loc nD τ sig) → Buf (Elt Ideal) ℓ) (ρ : Dev nD → PrngReg)

/-- The one grid point. -/
def t₀ : Fin cfg0.N := ⟨0, by decide⟩

/-- The operands of the reference's call, of its arguments. -/
def ins (c : Dev nD) : In :=
  ofArgs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- An offset that is zero on both axes. -/
theorem z2' (f : Fin 2 → ℕ) (h0 : f 0 = 0) (h1 : f 1 = 0) : f = fun _ => 0 := funext (Fin.forall_fin_two.mpr ⟨h0, h1⟩)

theorem blk0 (c : Dev nD) : iblk m c 0 t₀ = (ins m c).m := by
  refine (Memref.read_access_unit_zero (Elt Ideal) main_arg0 (z2' _ (by decide +kernel) (by decide +kernel)) (fun a => by fin_cases a <;> decide) (V m c main_arg0)).trans ?_
  entry_read; rfl
theorem blk1 (c : Dev nD) : iblk m c 1 t₀ = Host.slice S1152x5504 ![0, 0] ![1, 2] (ins m c).m slicesBy_S1152x11008_S1152x5504_0s1_0s2 := by
  refine (Memref.read_access_unit_zero (Elt Ideal) main_v0 (z2' _ (by decide +kernel) (by decide +kernel)) (fun a => by fin_cases a <;> decide) (V m c main_v0)).trans ?_
  entry_read; rfl
theorem blk2 (c : Dev nD) : iblk m c 2 t₀ = Host.slice S1152x5504 ![0, 1] ![1, 2] (ins m c).m slicesBy_S1152x11008_S1152x5504_0s1_1s2 := by
  refine (Memref.read_access_unit_zero (Elt Ideal) main_v1 (z2' _ (by decide +kernel) (by decide +kernel)) (fun a => by fin_cases a <;> decide) (V m c main_v1)).trans ?_
  entry_read; rfl
theorem blk3 (c : Dev nD) : iblk m c 3 t₀ = shapeCast S1152x1 (ins m c).sc shapeCasts_S1x1152_S1152x1 := by
  refine (Memref.read_access_unit_zero (Elt Ideal) main_v2 (z2' _ (by decide +kernel) (by decide +kernel)) (fun a => by fin_cases a <;> decide) (V m c main_v2)).trans ?_
  entry_read; rfl
theorem blk4 (c : Dev nD) : iblk m c 4 t₀ = (ins m c).h1 := by
  refine (Memref.read_access_unit_zero (Elt Ideal) main_v3 (z2' _ (by decide +kernel) (by decide +kernel)) (fun a => by fin_cases a <;> decide) (V m c main_v3)).trans ?_
  entry_read; rfl
theorem blk5 (c : Dev nD) : iblk m c 5 t₀ = (ins m c).w := by
  refine (Memref.read_access_unit_zero (Elt Ideal) main_arg3 (z2' _ (by decide +kernel) (by decide +kernel)) (fun a => by fin_cases a <;> decide) (V m c main_arg3)).trans ?_
  entry_read; rfl
theorem blk6 (c : Dev nD) : iblk m c 6 t₀ = (ins m c).sw := by
  refine (Memref.read_access_unit_zero (Elt Ideal) main_v4 (z2' _ (by decide +kernel) (by decide +kernel)) (fun a => by fin_cases a <;> decide) (V m c main_v4)).trans ?_
  entry_read; rfl
theorem blk7 (c : Dev nD) : iblk m c 7 t₀ = (ins m c).z := by
  refine (Memref.read_access_unit_zero (Elt Ideal) main_v5 (z2' _ (by decide +kernel) (by decide +kernel)) (fun a => by fin_cases a <;> decide) (V m c main_v5)).trans ?_
  entry_read; rfl

/-- The codes' array. -/
def G8 (c : Dev nD) : Buf (Elt Ideal) ((c : Thread nD τ).loc main_v6_0) := fun i => BitVec.ofInt 8 ((ins m c).code ⟨(i 0).val, (i 0).isLt⟩ (i 1).val)
/-- The result's array. -/
def G9 (c : Dev nD) : Buf (Elt Ideal) ((c : Thread nD τ).loc main_v6_1) := fun i => (ins m c).Y ⟨(i 0).val, (i 0).isLt⟩ ⟨(i 1).val, (i 1).isLt⟩

theorem out8_apply (c : Dev nD) : out0_8 (iblk m c 0 t₀) (iblk m c 1 t₀) (iblk m c 2 t₀) (iblk m c 3 t₀) (iblk m c 4 t₀) (iblk m c 5 t₀) (iblk m c 6 t₀) (iblk m c 7 t₀) = G8 m c := by
  rw [out8_eq, blk0, blk3]
  funext i
  obtain ⟨r, j, rfl⟩ : ∃ (r : Fin 1152) (j : Fin 11008), i = ix2 r j := ⟨i 0, i 1, eq_ix2 i⟩
  exact codes_apply (ins m c) _ (scales_apply _) r j

theorem out9_apply (c : Dev nD) : out0_9 (iblk m c 0 t₀) (iblk m c 1 t₀) (iblk m c 2 t₀) (iblk m c 3 t₀) (iblk m c 4 t₀) (iblk m c 5 t₀) (iblk m c 6 t₀) (iblk m c 7 t₀) = G9 m c := by
  rw [out9_eq, blk1, blk2, blk3, blk4, blk5, blk6, blk7]
  funext i
  obtain ⟨r, j, rfl⟩ : ∃ (r : Fin 1152) (j : Fin 2048), i = ix2 r j := ⟨i 0, i 1, eq_ix2 i⟩
  exact result_apply (ins m c) _ _ _ (even_apply _) (odd_apply _) (scales_apply _) r j

theorem whole8 (c : Dev nD) (G : Buf (Elt Ideal) ((c : Thread nD τ).loc main_v6_0)) :
    ((cfg0.win 8).blk t₀).view.read (Elt Ideal) G = G :=
  Memref.read_access_unit_zero (Elt Ideal) main_v6_0 (z2' _ (by decide +kernel) (by decide +kernel)) (fun a => by fin_cases a <;> decide) G
theorem whole9 (c : Dev nD) (G : Buf (Elt Ideal) ((c : Thread nD τ).loc main_v6_1)) :
    ((cfg0.win 9).blk t₀).view.read (Elt Ideal) G = G :=
  Memref.read_access_unit_zero (Elt Ideal) main_v6_1 (z2' _ (by decide +kernel) (by decide +kernel)) (fun a => by fin_cases a <;> decide) G

theorem final8 (c : Dev nD) : (dats m 0 c).arrAt 8 cfg0.N = G8 m c := by
  have h := Value.blocks8 m c t₀ (flush0_8 t₀)
  rw [whole8, Value.flushed8, out8_apply] at h
  exact h.trans rfl
theorem final9 (c : Dev nD) : (dats m 0 c).arrAt 9 cfg0.N = G9 m c := by
  have h := Value.blocks9 m c t₀ (flush0_9 t₀)
  rw [whole9, Value.flushed9, out9_apply] at h
  exact h.trans rfl

end Cert.DownRefIdeal.Ref

end
-- ==== Proof.DnClaim.lean ====
/- The second kernel and its reference leave the same arrays. -/
module

public import proofs.«01_k».proof.Defs
public import proofs.«01_k».proof.Proof.Dn.Value
public import proofs.«01_k».proof.Proof.DnRef.Final

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem host0 (c : Dev nD) : V m c main_v0 = broadcastInDim S1x2048 ![1] bcast_S2048_S1x2048_1 (m ((c : Thread nD τ).loc main_arg5)) := by entry_read; rfl
theorem host1 (c : Dev nD) : V m c main_v1 = broadcastInDim S1x2048 ![1] bcast_S2048_S1x2048_1 (m ((c : Thread nD τ).loc main_arg4)) := by entry_read; rfl
theorem host2 (c : Dev nD) : V m c main_v2 = shapeCast S1152x2048 (m ((c : Thread nD τ).loc main_arg2)) shapeCasts_S3x384x2048_S1152x2048 := by entry_read; rfl
theorem host_arg0 (c : Dev nD) : V m c main_arg0 = m ((c : Thread nD τ).loc main_arg0) := by entry_read; rfl
theorem host_arg1 (c : Dev nD) : V m c main_arg1 = m ((c : Thread nD τ).loc main_arg1) := by entry_read; rfl
theorem host_arg3 (c : Dev nD) : V m c main_arg3 = m ((c : Thread nD τ).loc main_arg3) := by entry_read; rfl

/-- The kernel's operands, of its arguments, are the reference's. -/
theorem opnds_eq (c : Dev nD) : opnds m c =
    Cert.DownRefIdeal.Ref.ofArgs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  unfold opnds
  rw [host0, host1, host2, host_arg0, host_arg1, host_arg3]
  rfl

variable (m' : (ℓ : Loc Cert.DownRefIdeal.nD Cert.DownRefIdeal.τ Cert.DownRefIdeal.sig) → Buf (Elt Ideal) ℓ)

/-- The two programs' operands agree when their arguments do. -/
theorem ins_eq (c : Dev nD)
    (h : m' ((c.tc : Thread Cert.DownRefIdeal.nD Cert.DownRefIdeal.τ).loc Cert.DownRefIdeal.main_arg0) = m ((c.tc : Thread nD τ).loc main_arg0)
      ∧ m' ((c.tc : Thread Cert.DownRefIdeal.nD Cert.DownRefIdeal.τ).loc Cert.DownRefIdeal.main_arg1) = m ((c.tc : Thread nD τ).loc main_arg1)
      ∧ m' ((c.tc : Thread Cert.DownRefIdeal.nD Cert.DownRefIdeal.τ).loc Cert.DownRefIdeal.main_arg2) = m ((c.tc : Thread nD τ).loc main_arg2)
      ∧ m' ((c.tc : Thread Cert.DownRefIdeal.nD Cert.DownRefIdeal.τ).loc Cert.DownRefIdeal.main_arg3) = m ((c.tc : Thread nD τ).loc main_arg3)
      ∧ m' ((c.tc : Thread Cert.DownRefIdeal.nD Cert.DownRefIdeal.τ).loc Cert.DownRefIdeal.main_arg4) = m ((c.tc : Thread nD τ).loc main_arg4)
      ∧ m' ((c.tc : Thread Cert.DownRefIdeal.nD Cert.DownRefIdeal.τ).loc Cert.DownRefIdeal.main_arg5) = m ((c.tc : Thread nD τ).loc main_arg5)) :
    Cert.DownRefIdeal.Ref.ins m' c = opnds m c := by
  obtain ⟨h0, h1, h2, h3, h4, h5⟩ := h
  rw [opnds_eq]
  unfold Cert.DownRefIdeal.Ref.ins
  exact congr (congr (congr (congr (congr (congrArg _ h0) h1) h2) h3) h4) h5

/-- The value claim. -/
theorem algebraic : algebraic_DownIdeal_DownRefIdeal (hDownIdeal := Cert.DownIdeal.Gen.facts) (hDownRefIdeal := Cert.DownRefIdeal.Gen.facts) := by
  intro m g m' g' _ hargs
  refine ⟨G6 m, G7 m, (θ_run _ _ _).mono (fun r h c => ⟨(h c).1.1, (h c).1.2, (h c).2⟩) (run m g), ?_⟩
  refine (θ_run _ _ _).mono (fun r h c => ?_) (Cert.DownRefIdeal.Value.run_blocks m' g')
  have e := ins_eq m m' c (hargs c)
  refine ⟨(h c).1.trans ((Cert.DownRefIdeal.Ref.final8 m' c).trans ?_), (h c).2.1.trans ((Cert.DownRefIdeal.Ref.final9 m' c).trans ?_), (h c).2.2⟩
  · unfold Cert.DownRefIdeal.Ref.G8
    rw [e]; rfl
  · unfold Cert.DownRefIdeal.Ref.G9
    rw [e]; rfl

end Cert.DownIdeal.Dn

end
-- ==== Proof.Qk.Row.lean ====
/- A row of activations normalized and quantized over the reals: what the first kernel and its reference both compute. -/
module

public import proofs.«01_k».proof.Proof.Dn.Clip
public import proofs.«01_k».proof.Proof.Up.Max

@[expose] public section

noncomputable section

namespace Cert.Qk

open Idealize.ShloMosaic Idealize.ShloMosaic.TcCoe Idealize.ShloMosaic.Tactic
open Cert.GateUpIdeal.Up (ir ab scaleOf)
open Cert.DownIdeal.Dn (clipZ)

/-- The row over the root of its mean square plus 1e-5, times the gains. -/
def nrm (x g : Fin 2048 → EReal) (j : Fin 2048) : EReal :=
  x j * Ideal.rsqrt (Ideal.div (∑ k : Fin 2048, x k * x k) (Ideal.ofBits .f32 0x45000000#32) + Ideal.ofBits .f32 0x3727C5AC#32) * g j

/-- The normalized row's scale. -/
def scl (x g : Fin 2048 → EReal) : EReal := scaleOf (Finset.univ.fold max ⊥ (fun j : Fin 2048 => ab (nrm x g j)))

/-- The normalized row's codes. -/
def cod (x g : Fin 2048 → EReal) (j : Fin 2048) : ℤ := clipZ (Ideal.div (nrm x g j) (scl x g))

end Cert.Qk

end
-- ==== Proof.Qk.Pay.lean ====
/- What the first kernel's body computes of a block of rows, at an index. -/
module

public import proofs.«01_k».proof.Proof.Qk.Row
public import proofs.«01_k».proof.Proof.Gen.QkvIdeal.Skeleton

@[expose] public section

noncomputable section

namespace Cert.QkvIdeal.Qk

open Cert.QkvIdeal Cert.QkvIdeal.Gen
open Idealize.ShloMosaic Idealize.ShloMosaic.TcCoe Idealize.ShloMosaic.Tactic
open Cert.GateUpIdeal.Up (ir ab scaleOf)
open Cert.DownIdeal.Dn (clipZ clip_eq clipZ_abs fptosi_ir trunc_ofInt)
open Cert.Qk

variable (x : Vec Ideal S1x384x2048 .bf16) (g : Vec Ideal S1x2048 .f32)

theorem pay6_apply (r : Fin 384) (j : Fin 2048) :
    k0_pay6 (F := Ideal) x g (ix2 r j) = nrm (fun k => x (ix3 0 r k)) (fun k => g (ix2 0 k)) j := by
  pointwise [k0_pay6, nrm]

theorem max_apply (v : FVec Ideal S384x2048 .f32) (r : Fin 384) :
    multiReduction .maximumf [1] S384 v 0xFF800000#32 reduces_S384x2048_S384 (.inl rfl) rfl (ix1 r) = Finset.univ.fold max (Ideal.ofBits .f32 4286578688#32) (fun k : Fin 2048 => v (ix2 r k)) := by
  pointwise
theorem col_apply (v : FVec Ideal S384 .f32) (r : Fin 384) : shapeCast S384x1 v shapeCasts_S384_S384x1 (ix2 r 0) = v (ix1 r) := by
  pointwise
theorem row_apply (v : FVec Ideal S384x1 .f32) (r : Fin 384) (j : Fin 2048) : broadcastTo S384x2048 v broadcasts_S384x1_S384x2048 (ix2 r j) = v (ix2 r 0) := by
  pointwise
/-- The scales of a column of maxima. -/
def sel (t : FVec Ideal S384x1 .f32) : FVec Ideal S384x1 .f32 :=
  select (cmpf .oeq t (broadcast S384x1 (Scalar.ofBits .f32 0x00000000#32))) (broadcast S384x1 (Scalar.ofBits .f32 0x3F800000#32)) (divf t (broadcast S384x1 (Scalar.ofBits .f32 0x42FE0000#32)))

theorem sel_apply (t : FVec Ideal S384x1 .f32) (r : Fin 384) : sel t (ix2 r 0) = scaleOf (t (ix2 r 0)) := by
  pointwise [sel, scaleOf]

theorem pay7_eq : k0_pay7 (F := Ideal) x g = sel (shapeCast S384x1 (multiReduction .maximumf [1] S384 (absf (k0_pay6 (F := Ideal) x g)) 0xFF800000#32 reduces_S384x2048_S384 (.inl rfl) rfl) shapeCasts_S384_S384x1) := rfl

theorem pay7_apply (r : Fin 384) :
    k0_pay7 (F := Ideal) x g (ix2 r 0) = scl (fun k => x (ix3 0 r k)) (fun k => g (ix2 0 k)) := by
  have hb : Ideal.ofBits .f32 4286578688#32 = (⊥ : EReal) := by simp [Ideal.ofBits, Ideal.ieee]
  have e : (fun k : Fin 2048 => absf (k0_pay6 (F := Ideal) x g) (ix2 r k)) = fun k => ab (nrm (fun k => x (ix3 0 r k)) (fun k => g (ix2 0 k)) k) :=
    funext fun k => congrArg ab (pay6_apply x g r k)
  rw [pay7_eq, sel_apply, col_apply, max_apply, hb, e, scl]

/-- Quotients rounded and clipped. -/
def clp (p q : FVec Ideal S384x2048 .f32) : FVec Ideal S384x2048 .f32 :=
  minimumf (broadcast S384x2048 (Scalar.ofBits .f32 0x42FE0000#32)) (maximumf (broadcast S384x2048 (Scalar.ofBits .f32 0xC2FE0000#32)) (roundeven (divf p q)))

theorem clp_apply (p q : FVec Ideal S384x2048 .f32) (i : S384x2048.Idx) : clp p q i = ir (clipZ (Ideal.div (p i) (q i))) := clip_eq _

theorem pay8_eq : k0_pay8 (F := Ideal) x g = clp (k0_pay6 (F := Ideal) x g) (broadcastTo S384x2048 (k0_pay7 (F := Ideal) x g) broadcasts_S384x1_S384x2048) := rfl

theorem pay8_apply (r : Fin 384) (j : Fin 2048) :
    k0_pay8 (F := Ideal) x g (ix2 r j) = ir (cod (fun k => x (ix3 0 r k)) (fun k => g (ix2 0 k)) j) := by
  rw [pay8_eq, clp_apply, row_apply, pay6_apply, pay7_apply, cod]

theorem block_apply (v : IVec S384x2048 8) (r : Fin 384) (j : Fin 2048) : shapeCast S1x384x2048 v shapeCasts_S384x2048_S1x384x2048 (ix3 0 r j) = v (ix2 r j) := by
  pointwise

theorem cod_abs (x g : Fin 2048 → EReal) (j : Fin 2048) : -127 ≤ cod x g j ∧ cod x g j ≤ 127 := clipZ_abs _

theorem codes_apply (r : Fin 384) (j : Fin 2048) :
    k0_pay10 (k0_pay9 (F := Ideal) x g) (ix3 0 r j) = BitVec.ofInt 8 (cod (fun k => x (ix3 0 r k)) (fun k => g (ix2 0 k)) j) := by
  refine (block_apply (k0_pay9 (F := Ideal) x g) r j).trans ?_
  show (Ideal.fptosi 32 (k0_pay8 (F := Ideal) x g (ix2 r j))).truncate 8 = _
  have hc := cod_abs (fun k => x (ix3 0 r k)) (fun k => g (ix2 0 k)) j
  rw [pay8_apply, fptosi_ir _ _ (by norm_num; omega) (by norm_num; omega), trunc_ofInt]

theorem lanes_apply (s : FVec Ideal S384x1 .f32) (r : Fin 384) : k0_pay11 (F := Ideal) s (ix3 0 0 r) = s (ix2 r 0) := by
  pointwise [k0_pay11]

theorem scales_apply (r : Fin 384) :
    k0_pay11 (F := Ideal) (k0_pay7 (F := Ideal) x g) (ix3 0 0 r) = scl (fun k => x (ix3 0 r k)) (fun k => g (ix2 0 k)) := by
  rw [lanes_apply, pay7_apply]

end Cert.QkvIdeal.Qk

end
-- ==== Proof.Qk.Out.lean ====
/- What each run of the first kernel's body leaves in the first two output windows. -/
module

public import proofs.«01_k».proof.Proof.Gen.QkvIdeal.Frame
public import Idealize.ShloMosaic.Lib.Pipeline.ValueKit
public import Idealize.ShloMosaic.Lib.Pipeline.ReadBack

@[expose] public section

set_option maxRecDepth 16384

noncomputable section

namespace Cert.QkvIdeal.Qk

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem z3 : (![0, 0, 0] : Fin 3 → ℕ) = fun _ => 0 := funext fun a => by fin_cases a <;> rfl
theorem z2 : (![0, 0] : Fin 2 → ℕ) = fun _ => 0 := funext fun a => by fin_cases a <;> rfl

section
variable (c : Dev nD) (i : grid0.Coords) (arg1 : Memref sig .tc .vmem S1x384x2048 .bf16) (harg1 : arg1.IsWhole) (arg2 : Memref sig .tc .vmem S1x2048 .f32) (harg2 : arg2.IsWhole) (arg3 : Memref sig .tc .vmem S1024x2560 .i8) (harg3 : arg3.IsWhole) (arg4 : Memref sig .tc .vmem S1x2560 .i8) (harg4 : arg4.IsWhole) (arg5 : Memref sig .tc .vmem S1x2560 .f32) (harg5 : arg5.IsWhole) (arg6 : Memref sig .tc .vmem S2x128 .f32) (harg6 : arg6.IsWhole) (arg7 : Memref sig .tc .vmem S1x384x128 .f32) (harg7 : arg7.IsWhole) (arg8 : Memref sig .tc .vmem S1x384x128 .f32) (harg8 : arg8.IsWhole) (arg9 : Memref sig .tc .vmem S1x384x2048 .i8) (harg9 : arg9.IsWhole) (arg10 : Memref sig .tc .vmem S1x1x384 .f32) (harg10 : arg10.IsWhole) (arg11 : Memref sig .tc .vmem S1x16x384x128 .bf16) (harg11 : arg11.IsWhole) (arg12 : Memref sig .tc .vmem S1x2x384x128 .bf16) (harg12 : arg12.IsWhole) (arg13 : Memref sig .tc .vmem S1x2x384x128 .bf16) (harg13 : arg13.IsWhole) (arg14 : Memref sig .tc .vmem S1x2x64x384 .i8) (harg14 : arg14.IsWhole) (arg15 : Memref sig .tc .vmem S1x2x64x384 .i8) (harg15 : arg15.IsWhole) (arg16 : Memref sig .tc .vmem S1x4x2x384 .f32) (harg16 : arg16.IsWhole) (arg17 : Memref sig .tc .vmem S2048x2560 .bf16) (harg17 : arg17.IsWhole)
    (x0 : Vec F S1x384x2048 .bf16) (x1 : Vec F S1x2048 .f32) (x2 : Vec F S1024x2560 .i8) (x3 : Vec F S1x2560 .i8) (x4 : Vec F S1x2560 .f32) (x5 : Vec F S2x128 .f32) (x6 : Vec F S1x384x128 .f32) (x7 : Vec F S1x384x128 .f32) (xs0 : Vec F S2048x2560 .bf16)

theorem codesA (hc0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = k0_pay10 (k0_pay9 x0 x1) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 = [⟨Rect.unit ![0, 0, 0] ![1, 384, 2048] (by decide), k0_pay10 (k0_pay9 x0 x1)⟩] := by
    frame_open
    simp (disch := decide) only [View.readAt_eq_ld, Memref.IsWhole.read_unread, View.ld_unit_lit']
  unfold out0_A_8
  rw [h, View.read_writes_junk_eq_canon]
  exact View.canon_unit_zero z3 _ _
theorem codesB (hc0 : ¬cond0_0 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 = k0_pay10 (k0_pay9 x0 x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).1 = [⟨Rect.unit ![0, 0, 0] ![1, 384, 2048] (by decide), k0_pay10 (k0_pay9 x0 x1)⟩] := by
    frame_open
    simp (disch := decide) only [View.readAt_eq_ld, Memref.IsWhole.read_unread, View.ld_unit_lit']
  unfold out0_B_8
  rw [h, View.read_writes_junk_eq_canon]
  exact View.canon_unit_zero z3 _ _
theorem sclA (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 = k0_pay11 (k0_pay7 x0 x1) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 = [⟨Rect.unit ![0, 0, 0] ![1, 1, 384] (by decide), k0_pay11 (k0_pay7 x0 x1)⟩] := by
    frame_open
    simp (disch := decide) only [View.readAt_eq_ld, Memref.IsWhole.read_unread, View.ld_unit_lit']
  unfold out0_A_9
  rw [h, View.read_writes_junk_eq_canon]
  exact View.canon_unit_zero z3 _ _
theorem sclB (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 = k0_pay11 (k0_pay7 x0 x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.1 = [⟨Rect.unit ![0, 0, 0] ![1, 1, 384] (by decide), k0_pay11 (k0_pay7 x0 x1)⟩] := by
    frame_open
    simp (disch := decide) only [View.readAt_eq_ld, Memref.IsWhole.read_unread, View.ld_unit_lit']
  unfold out0_B_9
  rw [h, View.read_writes_junk_eq_canon]
  exact View.canon_unit_zero z3 _ _
end

end Cert.QkvIdeal.Qk

end
-- ==== Proof.Qk.Final.lean ====
/- The first two arrays the first kernel leaves, in closed form, from its arguments. -/
module

public import proofs.«01_k».proof.Proof.Qk.Pay
public import proofs.«01_k».proof.Proof.Qk.Out
public import proofs.«01_k».proof.Proof.Gen.QkvIdeal.Value
public import Idealize.ShloMosaic.Lib.Pipeline.Value

@[expose] public section

set_option maxRecDepth 16384

noncomputable section

namespace Cert.QkvIdeal.Qk

open Cert.QkvIdeal Cert.QkvIdeal.Gen
open Idealize.ShloMosaic Idealize.ShloMosaic.TcCoe Idealize.ShloMosaic.Tactic
open Idealize.SL.Sem
open Idealize.ShloMosaic.Pipeline (Dat Cfg Window)
open Cert.Qk

variable (m : (ℓ : Loc nD τ sig) → Buf (Elt Ideal) ℓ) (c : Dev nD) (t : Fin cfg0.N)

/-- The activations and the gains. -/
def act : Vec Ideal S3x384x2048 .bf16 := m ((c : Thread nD τ).loc main_arg0)
def gain : Vec Ideal S2048 .f32 := m ((c : Thread nD τ).loc main_arg1)

theorem facts0 : ∀ t : Fin grid0.N, win0_0.index t (0 : Fin 3) = t.val ∧ win0_0.index t (1 : Fin 3) = 0 ∧ win0_0.index t (2 : Fin 3) = 0 := by decide +kernel
theorem facts1 : ∀ t : Fin grid0.N, win0_1.index t (0 : Fin 2) = 0 ∧ win0_1.index t (1 : Fin 2) = 0 := by decide +kernel

theorem host_act : V m c main_arg0 = act m c := by entry_read; rfl
theorem host_gain : V m c main_v25 = broadcastInDim S1x2048 ![1] bcast_S2048_S1x2048_1 (gain m c) := by entry_read; rfl

theorem gain_apply (g : Vec Ideal S2048 .f32) (k : Fin 2048) : broadcastInDim S1x2048 ![1] bcast_S2048_S1x2048_1 g (ix2 0 k) = g (ix1 k) := by
  pointwise

/-- The batch a point works on. -/
def bat : Fin 3 := ⟨t.val, lt_of_lt_of_eq t.isLt N_0⟩

/-- The rows of point `t` are batch `t`'s. -/
theorem blk0 (r : Fin 384) (k : Fin 2048) : (iblk m c 0 t : Vec Ideal S1x384x2048 .bf16) (ix3 0 r k) = act m c (ix3 (bat t) r k) := by
  obtain ⟨i0, i1, i2⟩ := facts0 t
  rw [← host_act]
  exact congrArg (V m c main_arg0) (funext fun a => match a with
    | ⟨0, _⟩ => Fin.ext ((win0_0.rect_emb_val t _ (0 : Fin 3)).trans (by rw [i0]; exact Nat.mul_one t.val))
    | ⟨1, _⟩ => Fin.ext ((win0_0.rect_emb_val t _ (1 : Fin 3)).trans (by rw [i1]; exact (congrArg (· + r.val) (Nat.zero_mul _)).trans (Nat.zero_add _)))
    | ⟨2, _⟩ => Fin.ext ((win0_0.rect_emb_val t _ (2 : Fin 3)).trans (by rw [i2]; exact (congrArg (· + k.val) (Nat.zero_mul _)).trans (Nat.zero_add _))))

/-- The gains are fetched whole. -/
theorem blk1 (k : Fin 2048) : (iblk m c 1 t : Vec Ideal S1x2048 .f32) (ix2 0 k) = gain m c (ix1 k) := by
  obtain ⟨i0, i1⟩ := facts1 t
  rw [← gain_apply (gain m c) k, ← host_gain]
  exact congrArg (V m c main_v25) (funext fun a => match a with
    | ⟨0, _⟩ => Fin.ext ((win0_1.rect_emb_val t _ (0 : Fin 2)).trans (by rw [i0]; exact Nat.zero_mul _))
    | ⟨1, _⟩ => Fin.ext ((win0_1.rect_emb_val t _ (1 : Fin 2)).trans (by rw [i1]; exact (congrArg (· + k.val) (Nat.zero_mul _)).trans (Nat.zero_add _))))

theorem outs8 : (outsAt0 m c t.val t.isLt).1 = k0_pay10 (k0_pay9 (F := Ideal) (iblk m c 0 t) (iblk m c 1 t)) := by
  by_cases h0 : t.val % 3 = 0
  · rw [outsAt0_A m c t h0]; dsimp only; exact codesA ..
  · rw [outsAt0_B m c t h0]; dsimp only; exact codesB ..
theorem outs9 : (outsAt0 m c t.val t.isLt).2.1 = k0_pay11 (k0_pay7 (F := Ideal) (iblk m c 0 t) (iblk m c 1 t)) := by
  by_cases h0 : t.val % 3 = 0
  · rw [outsAt0_A m c t h0]; dsimp only; exact sclA ..
  · rw [outsAt0_B m c t h0]; dsimp only; exact sclB ..

theorem outs8_apply (r : Fin 384) (j : Fin 2048) :
    (outsAt0 m c t.val t.isLt).1 (ix3 0 r j) = BitVec.ofInt 8 (cod (fun k => act m c (ix3 (bat t) r k)) (fun k => gain m c (ix1 k)) j) := by
  rw [outs8, codes_apply]
  exact congrArg₂ (fun x g => BitVec.ofInt 8 (cod x g j)) (funext fun k => blk0 m c t r k) (funext fun k => blk1 m c t k)
theorem outs9_apply (r : Fin 384) :
    (outsAt0 m c t.val t.isLt).2.1 (ix3 0 0 r) = scl (fun k => act m c (ix3 (bat t) r k)) (fun k => gain m c (ix1 k)) := by
  rw [outs9, scales_apply]
  exact congrArg₂ (fun x g => scl x g) (funext fun k => blk0 m c t r k) (funext fun k => blk1 m c t k)

/-- The point that writes a batch. -/
def ptOf (b : Fin 3) : Fin cfg0.N := ⟨b.val, lt_of_lt_of_eq b.isLt N_0.symm⟩

theorem codes_final (b : Fin 3) (r : Fin 384) (j : Fin 2048) :
    Value.G8 m c (ix3 b r j) = BitVec.ofInt 8 (cod (fun k => act m c (ix3 b r k)) (fun k => gain m c (ix1 k)) j) := by
  have hp : Value.pt8Of (ix3 b r j) = (ptOf b).val := by
    show 1 * (b.val / 1 - 0) + 1 * (r.val / 384 - 0) + 1 * (j.val / 2048 - 0) = b.val
    omega
  have hl : Value.loc8Of (ix3 b r j) = ix3 0 r j := funext fun a => match a with
    | ⟨0, _⟩ => Fin.ext (Nat.mod_one _)
    | ⟨1, _⟩ => Fin.ext (Nat.mod_eq_of_lt r.isLt)
    | ⟨2, _⟩ => Fin.ext (Nat.mod_eq_of_lt j.isLt)
  unfold Value.G8
  rw [dif_pos (by rw [hp]; exact (ptOf b).isLt), hl, Value.fold0_congr m c _ _ _ (by rw [Nat.zero_add]; exact (ptOf b).isLt) hp, ← Value.outsAt0_sweep m c (ptOf b).val (ptOf b).isLt]
  exact outs8_apply m c (ptOf b) r j

theorem scales_final (b : Fin 3) (r : Fin 384) :
    Value.G9 m c (ix3 b 0 r) = scl (fun k => act m c (ix3 b r k)) (fun k => gain m c (ix1 k)) := by
  have hp : Value.pt9Of (ix3 b 0 r) = (ptOf b).val := by
    show 1 * (b.val / 1 - 0) + 1 * (0 / 1 - 0) + 1 * (r.val / 384 - 0) = b.val
    omega
  have hl : Value.loc9Of (ix3 b 0 r) = ix3 0 0 r := funext fun a => match a with
    | ⟨0, _⟩ => Fin.ext (Nat.mod_one _)
    | ⟨1, _⟩ => Fin.ext (Nat.mod_one _)
    | ⟨2, _⟩ => Fin.ext (Nat.mod_eq_of_lt r.isLt)
  unfold Value.G9
  rw [dif_pos (by rw [hp]; exact (ptOf b).isLt), hl, Value.fold0_congr m c _ _ _ (by rw [Nat.zero_add]; exact (ptOf b).isLt) hp, ← Value.outsAt0_sweep m c (ptOf b).val (ptOf b).isLt]
  exact outs9_apply m c (ptOf b) r

end Cert.QkvIdeal.Qk

end
-- ==== Proof.QkRef.Pay.lean ====
/- What the first reference's body computes, at an index, as the first kernel's closed form. -/
module

public import proofs.«01_k».proof.Proof.Qk.Row
public import proofs.«01_k».proof.Proof.DnRef.Pay
public import proofs.«01_k».proof.Proof.Gen.QkvRefIdeal.Frame

@[expose] public section

noncomputable section

namespace Cert.QkvRefIdeal.Ref

open Cert.QkvRefIdeal Cert.QkvRefIdeal.Gen
open Idealize.ShloMosaic Idealize.ShloMosaic.TcCoe Idealize.ShloMosaic.Tactic
open Cert.GateUpIdeal.Up (ir ab scaleOf)
open Cert.DownRefIdeal.Ref (word8)
open Cert.DownIdeal.Dn (clipZ)
open Cert.Qk

variable (x : Vec Ideal S3x384x2048 .bf16) (g : Vec Ideal S1x1x2048 .f32)

theorem pay1_apply (b : Fin 3) (r : Fin 384) (j : Fin 2048) :
    k0_pay1 (F := Ideal) x g (ix3 b r j) = nrm (fun k => x (ix3 b r k)) (fun k => g (ix3 0 0 k)) j := by
  pointwise [k0_pay1, nrm]

theorem max_apply (v : FVec Ideal S3x384x2048 .f32) (b : Fin 3) (r : Fin 384) :
    multiReduction .maximumf [2] S3x384 v 0xFF800000#32 reduces_S3x384x2048_S3x384 (.inl rfl) rfl (ix2 b r) = Finset.univ.fold max (Ideal.ofBits .f32 4286578688#32) (fun k : Fin 2048 => v (ix3 b r k)) := by
  pointwise
theorem row_apply (v : FVec Ideal S3x384 .f32) (b : Fin 3) (r : Fin 384) (j : Fin 2048) : broadcastTo S3x384x2048 (shapeCast S3x384x1 v shapeCasts_S3x384_S3x384x1) broadcasts_S3x384x1_S3x384x2048 (ix3 b r j) = v (ix2 b r) := by
  pointwise
/-- The scales of a column of maxima. -/
def sel (t : FVec Ideal S3x384 .f32) : FVec Ideal S3x384 .f32 :=
  select (cmpf .oeq t (broadcast S3x384 (Scalar.ofBits .f32 0x00000000#32))) (broadcast S3x384 (Scalar.ofBits .f32 0x3F800000#32)) (divf t (broadcast S3x384 (Scalar.ofBits .f32 0x42FE0000#32)))

theorem sel_apply (t : FVec Ideal S3x384 .f32) (b : Fin 3) (r : Fin 384) : sel t (ix2 b r) = scaleOf (t (ix2 b r)) := by
  pointwise [sel, scaleOf]

theorem pay2_eq : k0_pay2 (F := Ideal) x g = sel (multiReduction .maximumf [2] S3x384 (absf (k0_pay1 (F := Ideal) x g)) 0xFF800000#32 reduces_S3x384x2048_S3x384 (.inl rfl) rfl) := rfl

theorem pay2_apply (b : Fin 3) (r : Fin 384) :
    k0_pay2 (F := Ideal) x g (ix2 b r) = scl (fun k => x (ix3 b r k)) (fun k => g (ix3 0 0 k)) := by
  have hb : Ideal.ofBits .f32 4286578688#32 = (⊥ : EReal) := by simp [Ideal.ofBits, Ideal.ieee]
  have e : (fun k : Fin 2048 => absf (k0_pay1 (F := Ideal) x g) (ix3 b r k)) = fun k => ab (nrm (fun k => x (ix3 b r k)) (fun k => g (ix3 0 0 k)) k) :=
    funext fun k => congrArg ab (pay1_apply x g b r k)
  rw [pay2_eq, sel_apply, max_apply, hb, e, scl]

/-- Quotients rounded and clipped, as bytes. -/
def clp (p q : FVec Ideal S3x384x2048 .f32) : IVec S3x384x2048 8 :=
  fptosi 8 (minimumf (broadcast S3x384x2048 (Scalar.ofBits .f32 0x42FE0000#32)) (maximumf (broadcast S3x384x2048 (Scalar.ofBits .f32 0xC2FE0000#32)) (roundeven (divf p q))))

theorem clp_apply (p q : FVec Ideal S3x384x2048 .f32) (i : S3x384x2048.Idx) : clp p q i = BitVec.ofInt 8 (clipZ (Ideal.div (p i) (q i))) := word8 _

theorem pay3_eq : k0_pay3 (F := Ideal) x g = clp (k0_pay1 (F := Ideal) x g) (broadcastTo S3x384x2048 (shapeCast S3x384x1 (k0_pay2 (F := Ideal) x g) shapeCasts_S3x384_S3x384x1) broadcasts_S3x384x1_S3x384x2048) := rfl

theorem pay3_apply (b : Fin 3) (r : Fin 384) (j : Fin 2048) :
    k0_pay3 (F := Ideal) x g (ix3 b r j) = BitVec.ofInt 8 (cod (fun k => x (ix3 b r k)) (fun k => g (ix3 0 0 k)) j) := by
  rw [pay3_eq, clp_apply, row_apply, pay1_apply, pay2_apply, cod]

theorem lanes_apply (v : FVec Ideal S3x384 .f32) (b : Fin 3) (r : Fin 384) : shapeCast S3x1x384 v shapeCasts_S3x384_S3x1x384 (ix3 b 0 r) = v (ix2 b r) := by
  pointwise

theorem pay4_apply (b : Fin 3) (r : Fin 384) :
    k0_pay4 (F := Ideal) x g (ix3 b 0 r) = scl (fun k => x (ix3 b r k)) (fun k => g (ix3 0 0 k)) := by
  exact (lanes_apply (k0_pay2 (F := Ideal) x g) b r).trans (pay2_apply x g b r)

theorem z3 : (![0, 0, 0] : Fin 3 → ℕ) = fun _ => 0 := funext fun a => by fin_cases a <;> rfl

theorem out2_eq : out0_2 (F := Ideal) x g = k0_pay3 x g := by
  unfold out0_2
  rw [View.canon_unit_zero z3, View.ld_unit_zero (S := S3x384x2048) z3, View.ld_unit_zero (S := S1x1x2048) z3]
theorem out3_eq : out0_3 (F := Ideal) x g = k0_pay4 x g := by
  unfold out0_3
  rw [View.canon_unit_zero z3, View.ld_unit_zero (S := S3x384x2048) z3, View.ld_unit_zero (S := S1x1x2048) z3]

end Cert.QkvRefIdeal.Ref

end
-- ==== Proof.QkRef.Final.lean ====
/- The arrays the first reference leaves, in closed form, from its arguments. -/
module

public import proofs.«01_k».proof.Proof.QkRef.Pay
public import proofs.«01_k».proof.Proof.Gen.QkvRefIdeal.Value
public import Idealize.ShloMosaic.Lib.Pipeline.Value

@[expose] public section

set_option maxRecDepth 16384

noncomputable section

namespace Cert.QkvRefIdeal.Ref

open Cert.QkvRefIdeal Cert.QkvRefIdeal.Gen
open Idealize.ShloMosaic Idealize.ShloMosaic.TcCoe Idealize.ShloMosaic.Tactic
open Idealize.SL.Sem
open Idealize.ShloMosaic.Pipeline (Dat Cfg Window)
open Cert.Qk

variable (m : (ℓ : Loc nD τ sig) → Buf (Elt Ideal) ℓ) (ρ : Dev nD → PrngReg)

/-- The one grid point. -/
def t₀ : Fin cfg0.N := ⟨0, by decide⟩

/-- An offset that is zero on all three axes. -/
theorem z3' (f : Fin 3 → ℕ) (h0 : f 0 = 0) (h1 : f 1 = 0) (h2 : f 2 = 0) : f = fun _ => 0 :=
  funext fun a => match a with | ⟨0, _⟩ => h0 | ⟨1, _⟩ => h1 | ⟨2, _⟩ => h2

/-- The activations and the gains. -/
def act (c : Dev nD) : Vec Ideal S3x384x2048 .bf16 := m ((c : Thread nD τ).loc main_arg0)
def gain (c : Dev nD) : Vec Ideal S2048 .f32 := m ((c : Thread nD τ).loc main_arg1)

theorem blk0 (c : Dev nD) : iblk m c 0 t₀ = act m c := by
  refine (Memref.read_access_unit_zero (Elt Ideal) main_arg0 (z3' _ (by decide +kernel) (by decide +kernel) (by decide +kernel)) (fun a => by fin_cases a <;> decide) (V m c main_arg0)).trans ?_
  entry_read; rfl
theorem blk1 (c : Dev nD) : iblk m c 1 t₀ = broadcastInDim S1x1x2048 ![2] bcast_S2048_S1x1x2048_2 (gain m c) := by
  refine (Memref.read_access_unit_zero (Elt Ideal) main_v0 (z3' _ (by decide +kernel) (by decide +kernel) (by decide +kernel)) (fun a => by fin_cases a <;> decide) (V m c main_v0)).trans ?_
  entry_read; rfl

theorem gain_apply (g : Vec Ideal S2048 .f32) (k : Fin 2048) : broadcastInDim S1x1x2048 ![2] bcast_S2048_S1x1x2048_2 g (ix3 0 0 k) = g (ix1 k) := by
  pointwise

theorem out2_apply (c : Dev nD) (b : Fin 3) (r : Fin 384) (j : Fin 2048) :
    out0_2 (iblk m c 0 t₀) (iblk m c 1 t₀) (ix3 b r j) = BitVec.ofInt 8 (cod (fun k => act m c (ix3 b r k)) (fun k => gain m c (ix1 k)) j) := by
  rw [blk0, blk1, out2_eq, pay3_apply]
  exact congrArg (fun g => BitVec.ofInt 8 (cod (fun k => act m c (ix3 b r k)) g j)) (funext fun k => gain_apply (gain m c) k)
theorem out3_apply (c : Dev nD) (b : Fin 3) (r : Fin 384) :
    out0_3 (iblk m c 0 t₀) (iblk m c 1 t₀) (ix3 b 0 r) = scl (fun k => act m c (ix3 b r k)) (fun k => gain m c (ix1 k)) := by
  rw [blk0, blk1, out3_eq, pay4_apply]
  exact congrArg (fun g => scl (fun k => act m c (ix3 b r k)) g) (funext fun k => gain_apply (gain m c) k)

theorem whole2 (c : Dev nD) (G : Buf (Elt Ideal) ((c : Thread nD τ).loc main_v1_0)) :
    ((cfg0.win 2).blk t₀).view.read (Elt Ideal) G = G :=
  Memref.read_access_unit_zero (Elt Ideal) main_v1_0 (z3' _ (by decide +kernel) (by decide +kernel) (by decide +kernel)) (fun a => by fin_cases a <;> decide) G
theorem whole3 (c : Dev nD) (G : Buf (Elt Ideal) ((c : Thread nD τ).loc main_v1_1)) :
    ((cfg0.win 3).blk t₀).view.read (Elt Ideal) G = G :=
  Memref.read_access_unit_zero (Elt Ideal) main_v1_1 (z3' _ (by decide +kernel) (by decide +kernel) (by decide +kernel)) (fun a => by fin_cases a <;> decide) G

theorem final2 (c : Dev nD) : (dats m 0 c).arrAt 2 cfg0.N = out0_2 (iblk m c 0 t₀) (iblk m c 1 t₀) := by
  have h := Value.blocks2 m c t₀ (flush0_2 t₀)
  rw [whole2, Value.flushed2] at h
  exact h.trans rfl
theorem final3 (c : Dev nD) : (dats m 0 c).arrAt 3 cfg0.N = out0_3 (iblk m c 0 t₀) (iblk m c 1 t₀) := by
  have h := Value.blocks3 m c t₀ (flush0_3 t₀)
  rw [whole3, Value.flushed3] at h
  exact h.trans rfl

end Cert.QkvRefIdeal.Ref

end
-- ==== Proof.QkClaim.lean ====
/- The first kernel and its reference leave the same codes and scales. -/
module

public import proofs.«01_k».proof.Defs
public import proofs.«01_k».proof.Proof.Qk.Final
public import proofs.«01_k».proof.Proof.QkRef.Final

@[expose] public section

set_option maxRecDepth 16384

noncomputable section

namespace Cert.QkvIdeal.Qk

open Cert.QkvIdeal Cert.QkvIdeal.Gen
open Idealize.ShloMosaic Idealize.ShloMosaic.TcCoe Idealize.ShloMosaic.Tactic
open Idealize.SL.Sem

variable (m : (ℓ : Loc nD τ sig) → Buf (Elt Ideal) ℓ)
variable (m' : (ℓ : Loc Cert.QkvRefIdeal.nD Cert.QkvRefIdeal.τ Cert.QkvRefIdeal.sig) → Buf (Elt Ideal) ℓ)

/-- Two arrays of three axes are equal when their entries are. -/
theorem ext3 {n0 n1 n2 : ℕ} {α : Type} (f g : (⟨3, ![n0, n1, n2]⟩ : Shape).Idx → α) (h : ∀ a b k, f (ix3 a b k) = g (ix3 a b k)) : f = g :=
  funext fun i => by rw [eq_ix3 i]; exact h _ _ _

/-- The reference's codes are the kernel's. -/
theorem codes_agree (c : Dev nD) (ha : Cert.QkvRefIdeal.Ref.act m' c = act m c) (hg : Cert.QkvRefIdeal.Ref.gain m' c = gain m c) :
    (Cert.QkvRefIdeal.Gen.out0_2 (Cert.QkvRefIdeal.Gen.iblk m' c 0 Cert.QkvRefIdeal.Ref.t₀) (Cert.QkvRefIdeal.Gen.iblk m' c 1 Cert.QkvRefIdeal.Ref.t₀) : Vec Ideal S3x384x2048 .i8) = Value.G8 m c :=
  ext3 _ _ fun b r j => by
    refine (Cert.QkvRefIdeal.Ref.out2_apply m' c b r j).trans (Eq.trans ?_ (codes_final m c b r j).symm)
    rw [ha, hg]

/-- The reference's scales are the kernel's. -/
theorem scales_agree (c : Dev nD) (ha : Cert.QkvRefIdeal.Ref.act m' c = act m c) (hg : Cert.QkvRefIdeal.Ref.gain m' c = gain m c) :
    (Cert.QkvRefIdeal.Gen.out0_3 (Cert.QkvRefIdeal.Gen.iblk m' c 0 Cert.QkvRefIdeal.Ref.t₀) (Cert.QkvRefIdeal.Gen.iblk m' c 1 Cert.QkvRefIdeal.Ref.t₀) : Vec Ideal S3x1x384 .f32) = Value.G9 m c :=
  ext3 _ _ fun b o r => by
    obtain rfl : o = 0 := Subsingleton.elim _ _
    refine (Cert.QkvRefIdeal.Ref.out3_apply m' c b r).trans (Eq.trans ?_ (scales_final m c b r).symm)
    rw [ha, hg]

/-- The value claim. -/
theorem algebraic : algebraic_QkvIdeal_QkvRefIdeal (hQkvIdeal := Cert.QkvIdeal.Gen.facts) (hQkvRefIdeal := Cert.QkvRefIdeal.Gen.facts) := by
  intro m g m' g' _ hargs
  refine ⟨Value.G8 m, Value.G9 m, (θ_run _ _ _).mono (fun r h c => ⟨(h c).1, (h c).2.1, (h c).2.2.2.2.2.2.2.2⟩) (Value.run m g), ?_⟩
  refine (θ_run _ _ _).mono (fun r h c => ?_) (Cert.QkvRefIdeal.Value.run_blocks m' g')
  have ha : Cert.QkvRefIdeal.Ref.act m' c = act m c := (hargs c).1
  have hg : Cert.QkvRefIdeal.Ref.gain m' c = gain m c := (hargs c).2.1
  exact ⟨(h c).1.trans ((Cert.QkvRefIdeal.Ref.final2 m' c).trans (codes_agree m m' c ha hg)),
    (h c).2.1.trans ((Cert.QkvRefIdeal.Ref.final3 m' c).trans (scales_agree m m' c ha hg)), (h c).2.2⟩

end Cert.QkvIdeal.Qk

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.GateUpRefIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Gen.QkvIdeal.Value
public import proofs.«01_k».proof.Proof.UpBits.Frame
public import proofs.«01_k».proof.Proof.UpClaim
public import proofs.«01_k».proof.Proof.DnBits.Frame
public import proofs.«01_k».proof.Proof.DnClaim
public import proofs.«01_k».proof.Proof.QkClaim
public import Idealize.ShloMosaic.Adequacy
public import Idealize.ShloMosaic.Init

@[expose] public section

noncomputable section

namespace Cert.Proof

open Idealize.ShloMosaic Idealize.SL.Sem Cert.GateUp

theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts,
  Cert.Qkv.Gen.facts, Cert.QkvIdeal.Gen.facts, Cert.QkvRefIdeal.Gen.facts,
  fun m ρ _ => Cert.GateUp.Up.frame m ρ,
  fun m ρ _ => Cert.GateUpIdeal.Up.frame m ρ,
  fun m ρ _ => Cert.GateUpRefIdeal.Gen.frame m ρ,
  fun m ρ _ => Cert.Down.Dn.frame m ρ,
  fun m ρ _ => Cert.DownIdeal.Dn.frame m ρ,
  fun m ρ _ => Cert.DownRefIdeal.Gen.frame m ρ,
  fun m ρ _ => Cert.Qkv.Gen.frame m ρ,
  fun m ρ _ => Cert.QkvIdeal.Gen.frame m ρ,
  fun m ρ _ => Cert.QkvRefIdeal.Gen.frame m ρ,
  trivial,
  Cert.GateUpIdeal.Up.algebraic,
  trivial,
  Cert.DownIdeal.Dn.algebraic,
  trivial,
  Cert.QkvIdeal.Qk.algebraic⟩

end Cert.Proof

end
